-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_observed [hPre_observed : Cert.Pre_observed.Facts] (m : (ℓ : Loc Cert.KernelIdeal.nD Cert.KernelIdeal.τ Cert.KernelIdeal.sig) → Buf (Elt Ideal) ℓ) : Prop :=
  ∀ c : Dev Cert.KernelIdeal.nD,
    (Cert.Pre_observed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_observed [hPre_observed : Cert.Pre_observed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_observed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_observed [hKernelIdeal : Cert.KernelIdeal.Facts] [hPre_observed : Cert.Pre_observed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_observed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_observed [hReferenceIdeal : Cert.ReferenceIdeal.Facts] [hPre_observed : Cert.Pre_observed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_observed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_observed [hKernelIdeal : Cert.KernelIdeal.Facts] [hReferenceIdeal : Cert.ReferenceIdeal.Facts] [hPre_observed : Cert.Pre_observed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_observed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_observed : Cert.Pre_observed.Facts),
    quiescent_Kernel (hKernel := hKernel)
    ∧ quiescent_KernelIdeal (hKernelIdeal := hKernelIdeal)
    ∧ quiescent_KernelIdeal_pre_observed (hKernelIdeal := hKernelIdeal) (hPre_observed := hPre_observed)
    ∧ quiescent_ReferenceIdeal (hReferenceIdeal := hReferenceIdeal)
    ∧ quiescent_ReferenceIdeal_pre_observed (hReferenceIdeal := hReferenceIdeal) (hPre_observed := hPre_observed)
    ∧ preserves_Kernel_KernelIdeal
    ∧ algebraic_KernelIdeal_ReferenceIdeal_pre_observed (hKernelIdeal := hKernelIdeal) (hReferenceIdeal := hReferenceIdeal) (hPre_observed := hPre_observed)
-- ==== Pre_observed.lean ====
abbrev S8x50000x128 : Shape := ⟨3, ![8, 50000, 128]⟩
abbrev S8x50000 : Shape := ⟨2, ![8, 50000]⟩
abbrev S128x128 : Shape := ⟨2, ![128, 128]⟩
abbrev S128 : Shape := ⟨1, ![128]⟩
abbrev S_ : Shape := ⟨0, ![]⟩

class Facts : Prop where
  bcast_S_S8x50000 : S_.BroadcastsInDim S8x50000 (![] : Fin 0 → Fin S8x50000.rank)
  reducesTo_S8x50000_S_d0_1 : S8x50000.ReducesTo [0, 1] S_
  h_S_ : 0 < S_.numel

variable [Facts]

def fn {F : FTy → Type} [FloatOps F] (main_arg0 : FVec F S8x50000x128 .f32) (main_arg1 : IVec S8x50000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_c : IVec S_ 32 := constantI S_ 32 4294967295#32
  let main_v0 : IVec S8x50000 32 := broadcastInDim S8x50000 ![] bcast_S_S8x50000 main_c
  let main_v1 : IVec S8x50000 1 := cmpi .sge main_arg1 main_v0
  let main_c_0 : IVec S_ 32 := constantI S_ 32 1#32
  let main_v2 : IVec S8x50000 32 := broadcastInDim S8x50000 ![] bcast_S_S8x50000 main_c_0
  let main_v3 : IVec S8x50000 1 := cmpi .sle main_arg1 main_v2
  let main_v4 : IVec S8x50000 1 := andi main_v1 main_v3
  let main_c_1 : IVec S_ 1 := constantI S_ 1 1#1
  let main_v5 : IVec S_ 1 := (fun x v => Host.reduce IntOp.andi x v reducesTo_S8x50000_S_d0_1 h_S_) main_v4 main_c_1
  main_v5
-- ==== Kernel.lean ====
abbrev S8x50000x128 : Shape := ⟨3, ![8, 50000, 128]⟩
abbrev S8x50000 : Shape := ⟨2, ![8, 50000]⟩
abbrev S128x128 : Shape := ⟨2, ![128, 128]⟩
abbrev S128 : Shape := ⟨1, ![128]⟩
abbrev S400000x128 : Shape := ⟨2, ![400000, 128]⟩
abbrev S3125x128 : Shape := ⟨2, ![3125, 128]⟩
abbrev S128x256 : Shape := ⟨2, ![128, 256]⟩
abbrev S256 : Shape := ⟨1, ![256]⟩
abbrev S1x256 : Shape := ⟨2, ![1, 256]⟩
abbrev S256x128 : Shape := ⟨2, ![256, 128]⟩
abbrev S1x128 : Shape := ⟨2, ![1, 128]⟩
abbrev S16384x128 : Shape := ⟨2, ![16384, 128]⟩
abbrev S512x128 : Shape := ⟨2, ![512, 128]⟩
abbrev S128x1 : Shape := ⟨2, ![128, 1]⟩
abbrev S512x1 : Shape := ⟨2, ![512, 1]⟩
abbrev S512x256 : Shape := ⟨2, ![512, 256]⟩

abbrev nBuf : Space → Nat
  | .hbm => 23
  | .vmem => 11
  | .smem => 0
  | _ => 0

abbrev bufTy : (tb : Table) → Fin (tcTables nBuf tb) → BufTy
  | .hbm, ⟨0, _⟩ => ⟨S8x50000x128, .f32⟩
  | .hbm, ⟨1, _⟩ => ⟨S8x50000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S400000x128, .f32⟩
  | .hbm, ⟨11, _⟩ => ⟨S3125x128, .i32⟩
  | .hbm, ⟨12, _⟩ => ⟨S3125x128, .f32⟩
  | .hbm, ⟨13, _⟩ => ⟨S128x256, .f32⟩
  | .hbm, ⟨14, _⟩ => ⟨S128x256, .bf16⟩
  | .hbm, ⟨15, _⟩ => ⟨S256, .f32⟩
  | .hbm, ⟨16, _⟩ => ⟨S1x256, .f32⟩
  | .hbm, ⟨17, _⟩ => ⟨S256x128, .f32⟩
  | .hbm, ⟨18, _⟩ => ⟨S256x128, .bf16⟩
  | .hbm, ⟨19, _⟩ => ⟨S1x128, .f32⟩
  | .hbm, ⟨20, _⟩ => ⟨S1x128, .f32⟩
  | .hbm, ⟨21, _⟩ => ⟨S400000x128, .f32⟩
  | .hbm, ⟨22, _⟩ => ⟨S8x50000x128, .f32⟩
  | .local _ .vmem, ⟨0, _⟩ => ⟨S128x128, .f32⟩
  | .local _ .vmem, ⟨1, _⟩ => ⟨S128x128, .f32⟩
  | .local _ .vmem, ⟨2, _⟩ => ⟨S16384x128, .f32⟩
  | .local _ .vmem, ⟨3, _⟩ => ⟨S16384x128, .f32⟩
  | .local _ .vmem, ⟨4, _⟩ => ⟨S128x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S1x128, .f32⟩
  | .local _ .vmem, ⟨9, _⟩ => ⟨S16384x128, .f32⟩
  | .local _ .vmem, ⟨10, _⟩ => ⟨S16384x128, .f32⟩
  | _, _ => ⟨S8x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x50000x128 : Shape := ⟨3, ![8, 50000, 128]⟩
abbrev S8x50000 : Shape := ⟨2, ![8, 50000]⟩
abbrev S128x128 : Shape := ⟨2, ![128, 128]⟩
abbrev S128 : Shape := ⟨1, ![128]⟩
abbrev S_ : Shape := ⟨0, ![]⟩
abbrev S8x50000x1 : Shape := ⟨3, ![8, 50000, 1]⟩
abbrev S1x1x128 : Shape := ⟨3, ![1, 1, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x50000x128, .f32⟩
  | .hbm, ⟨1, _⟩ => ⟨S8x50000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S8x50000, .i32⟩
  | .hbm, ⟨12, _⟩ => ⟨S8x50000, .i1⟩
  | .hbm, ⟨13, _⟩ => ⟨S8x50000x1, .i1⟩
  | .hbm, ⟨14, _⟩ => ⟨S_, .i32⟩
  | .hbm, ⟨15, _⟩ => ⟨S8x50000, .i32⟩
  | .hbm, ⟨16, _⟩ => ⟨S8x50000, .i1⟩
  | .hbm, ⟨17, _⟩ => ⟨S8x50000x1, .i1⟩
  | .hbm, ⟨18, _⟩ => ⟨S8x50000x128, .f32⟩
  | .hbm, ⟨19, _⟩ => ⟨S1x1x128, .f32⟩
  | .hbm, ⟨20, _⟩ => ⟨S8x50000x128, .f32⟩
  | .hbm, ⟨21, _⟩ => ⟨S8x50000x128, .f32⟩
  | .hbm, ⟨22, _⟩ => ⟨S_, .f32⟩
  | .hbm, ⟨23, _⟩ => ⟨S8x50000x128, .f32⟩
  | .hbm, ⟨24, _⟩ => ⟨S8x50000x128, .f32⟩
  | .hbm, ⟨25, _⟩ => ⟨S8x50000x128, .f32⟩
  | .hbm, ⟨26, _⟩ => ⟨S1x1x128, .f32⟩
  | .hbm, ⟨27, _⟩ => ⟨S8x50000x128, .f32⟩
  | .hbm, ⟨28, _⟩ => ⟨S8x50000x128, .f32⟩
  | .hbm, ⟨29, _⟩ => ⟨S8x50000x128, .i1⟩
  | .hbm, ⟨30, _⟩ => ⟨S8x50000x128, .f32⟩
  | .hbm, ⟨31, _⟩ => ⟨S8x50000x128, .f32⟩
  | .hbm, ⟨32, _⟩ => ⟨S1x1x128, .f32⟩
  | .hbm, ⟨33, _⟩ => ⟨S8x50000x128, .f32⟩
  | .hbm, ⟨34, _⟩ => ⟨S8x50000x128, .f32⟩
  | .hbm, ⟨35, _⟩ => ⟨S_, .f32⟩
  | .hbm, ⟨36, _⟩ => ⟨S8x50000x128, .f32⟩
  | .hbm, ⟨37, _⟩ => ⟨S8x50000x128, .f32⟩
  | .hbm, ⟨38, _⟩ => ⟨S8x50000x128, .f32⟩
  | .hbm, ⟨39, _⟩ => ⟨S1x1x128, .f32⟩
  | .hbm, ⟨40, _⟩ => ⟨S8x50000x128, .f32⟩
  | .hbm, ⟨41, _⟩ => ⟨S8x50000x128, .f32⟩
  | .hbm, ⟨42, _⟩ => ⟨S8x50000x128, .i1⟩
  | .hbm, ⟨43, _⟩ => ⟨S8x50000x128, .f32⟩
  | _, _ => ⟨S8x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_cst : Ref sig .tc := ⟨.hbm, 35, rfl⟩
abbrev main_call2_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call3_v0 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Proof.Chunk.lean ====
/-
  What one chunk of a block computes, as a function of the chunk's number.

  The kernel takes a block of 16384 rows in 32 chunks of 512 rows. Each chunk runs the same text at another offset; the
  values of that text are stated here once, for chunk number `k`, in the program's own operations and for any float values.
-/
module

public import proofs.«01_k».proof.Proof.Gen.KernelIdeal.Skeleton
public import Idealize.ShloMosaic.Lib.Pointwise
public import Idealize.ShloMosaic.Lib.VecWindow

@[expose] public section

set_option maxRecDepth 16384

noncomputable section

namespace Cert.KernelIdeal.Fused

open Cert.KernelIdeal Cert.KernelIdeal.Gen
open Idealize.ShloMosaic

variable {F : FTy → Type} [FloatOps F]

/-- One column of a 128×128 array is a slice of it. -/
theorem slices_col {j : ℕ} (hj : j < 128) : S128x128.Slices ![0, j] S128x1 :=
  ⟨rfl, fun a => by
    match a with
    | ⟨0, _⟩ => exact le_of_eq (Nat.zero_add 128)
    | ⟨1, _⟩ => exact hj⟩

/-- 512 rows from row `512 k` lie inside the block of 16384 rows. -/
theorem inb_chunk {k : ℕ} (hk : k < 32) : ∀ a, (![512 * k, 0] : Fin 2 → ℕ) a + S512x128.size a ≤ S16384x128.size a := fun a => by
  match a with
  | ⟨0, _⟩ => show 512 * k + 512 ≤ 16384; omega
  | ⟨1, _⟩ => exact le_of_eq (Nat.zero_add 128)

/-- Column `j` of a 128×128 array. -/
def col (v : FVec F S128x128 .f32) {j : ℕ} (hj : j < 128) : FVec F S128x1 .f32 :=
  extractStridedSlice S128x1 ![0, j] v (slices_col hj)

/-- The masks of chunk `k`'s 512 rows: columns `4k … 4k+3` of the transposed masks, one below the other. -/
def maskCol (v : FVec F S128x128 .f32) (k : ℕ) (hk : k < 32) : FVec F S512x1 .f32 :=
  concatenate S512x1 0
    [⟨S128x1, col v (j := 4 * k) (by omega)⟩, ⟨S128x1, col v (j := 4 * k + 1) (by omega)⟩,
      ⟨S128x1, col v (j := 4 * k + 2) (by omega)⟩, ⟨S128x1, col v (j := 4 * k + 3) (by omega)⟩]
    concatenates_S128x1_S128x1_S128x1_S128x1_S512x1_d0

/-- The positive network's hidden layer on chunk `k`, times the positive mask. -/
def posHidden (k : ℕ) (hk : k < 32) (mp : FVec F S128x128 .f32) (b0 : FVec F S1x256 .f32) (x : Vec F S512x128 .f32)
    (w0 : Vec F S128x256 .bf16) : FVec F S512x128 .bf16 :=
  truncf .bf16 (mulf (extractStridedSlice S512x128 ![0, 0] (k0_pay18 b0 x w0) slices_S512x256_o0_0_S512x128)
    (broadcastTo S512x128 (maskCol mp k hk) broadcasts_S512x1_S512x128)) bitsLt_bf16_f32

/-- The negative network's hidden layer on chunk `k`, times the negative mask. -/
def negHidden (k : ℕ) (hk : k < 32) (mn : FVec F S128x128 .f32) (b0 : FVec F S1x256 .f32) (x : Vec F S512x128 .f32)
    (w0 : Vec F S128x256 .bf16) : FVec F S512x128 .f32 :=
  mulf (extractStridedSlice S512x128 ![0, 128] (k0_pay18 b0 x w0) slices_S512x256_o0_128_S512x128)
    (broadcastTo S512x128 (maskCol mn k hk) broadcasts_S512x1_S512x128)

/-- What is stored for chunk `k`: from the masks of the block, the chunk's 512 rows `x` and the two layers' weights and biases. -/
def chunkOut (k : ℕ) (hk : k < 32) (mp mn : FVec F S128x128 .f32) (b0 : FVec F S1x256 .f32) (bp bn : FVec F S1x128 .f32)
    (x : Vec F S512x128 .f32) (w0 : Vec F S128x256 .bf16) (w1 : Vec F S256x128 .bf16) : FVec F S512x128 .f32 :=
  k0_pay14 bp bn (k0_pay15 x) (maskCol mp k hk) (maskCol mn k hk) (posHidden k hk mp b0 x w0) (negHidden k hk mn b0 x w0) w1

/-- The 512 rows of chunk `k` of a block. -/
def rowsOf (X : S16384x128.Idx → Elt F .f32) (k : ℕ) (hk : k < 32) : Vec F S512x128 .f32 :=
  View.ld X (Rect.unit (s := S16384x128) ![512 * k, 0] S512x128.size (inb_chunk hk))

/-- A row of a block lies in one of its 32 chunks. -/
theorem chunk_lt (r : Fin 16384) : r.val / 512 < 32 := by omega

/-- The block the chunks' stores leave: row `r` is row `r % 512` of what chunk `r / 512` stores. -/
def blockOf (mp mn : FVec F S128x128 .f32) (b0 : FVec F S1x256 .f32) (bp bn : FVec F S1x128 .f32)
    (X : S16384x128.Idx → Elt F .f32) (w0 : Vec F S128x256 .bf16) (w1 : Vec F S256x128 .bf16) : S16384x128.Idx → Elt F .f32 := fun j =>
  chunkOut ((j 0).val / 512) (chunk_lt (j 0)) mp mn b0 bp bn (rowsOf X ((j 0).val / 512) (chunk_lt (j 0))) w0 w1
    (ix2 ⟨(j 0).val % 512, Nat.mod_lt _ (by decide)⟩ (j 1))

/-- What the body leaves in the result's block, from what the blocks of its operands hold. The masks are the positive and
    the negative part of the block of observations, transposed. -/
def blockOut (O : Vec F S128x128 .f32) (X : S16384x128.Idx → Elt F .f32) (w0 : Vec F S128x256 .bf16) (b0 : Vec F S1x256 .f32)
    (w1 : Vec F S256x128 .bf16) (bp bn : Vec F S1x128 .f32) : S16384x128.Idx → Elt F .f32 :=
  blockOf (k0_pay3 O) (k0_pay4 O) (k0_pay5 b0) (k0_pay6 bp) (k0_pay7 bn) X w0 w1

/-- A store of chunk `k` extends the rows on which the buffer holds the block by the chunk's own. -/
theorem put_chunk (mp mn : FVec F S128x128 .f32) (b0 : FVec F S1x256 .f32) (bp bn : FVec F S1x128 .f32)
    (X : S16384x128.Idx → Elt F .f32) (w0 : Vec F S128x256 .bf16) (w1 : Vec F S256x128 .bf16) (D : S16384x128.Idx → Elt F .f32)
    (k : ℕ) (hk : k < 32) (hD : ∀ j : S16384x128.Idx, (j 0).val < 512 * k → D j = blockOf mp mn b0 bp bn X w0 w1 j)
    (j : S16384x128.Idx) (hj : (j 0).val < 512 * (k + 1)) :
    VecWindow.put D (![512 * k, 0] : Fin 2 → ℕ) S512x128.size (chunkOut k hk mp mn b0 bp bn (rowsOf X k hk) w0 w1) j
      = blockOf mp mn b0 bp bn X w0 w1 j := by
  unfold VecWindow.put
  by_cases h : (j 0).val < 512 * k
  · rw [dif_neg (fun hall => by have := (hall 0).1; simp at this; omega)]
    exact hD j h
  · have hq : (j 0).val / 512 = k := by omega
    have hin : ∀ a, (![512 * k, 0] : Fin 2 → ℕ) a ≤ (j a).val ∧ (j a).val < (![512 * k, 0] : Fin 2 → ℕ) a + S512x128.size a := fun a => by
      match a with
      | ⟨0, _⟩ => exact ⟨by show 512 * k ≤ (j 0).val; omega, by show (j 0).val < 512 * k + 512; omega⟩
      | ⟨1, _⟩ => exact ⟨Nat.zero_le _, lt_of_lt_of_eq (j 1).isLt (Nat.zero_add 128).symm⟩
    rw [dif_pos hin]
    unfold blockOf
    subst hq
    refine congrArg _ (funext fun a => Fin.ext ?_)
    match a with
    | ⟨0, _⟩ => show (j 0).val - 512 * ((j 0).val / 512) = (j 0).val % 512; omega
    | ⟨1, _⟩ => rfl

end Cert.KernelIdeal.Fused

end
-- ==== Proof.Rules.lean ====
/-
  A load and a store through a memref owned at named contents: the load reads the rectangle of the contents, the store
  leaves the contents with the payload put over the rectangle.
-/
module

public import Idealize.ShloMosaic.Lib.VecWindow
public import Idealize.ShloMosaic.Lib.Tactic

@[expose] public section

noncomputable section

namespace Cert.OwnsRules

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} [∀ e, Nonempty (Val e)]
variable {Ix : Type} [DecidableEq Ix] {Name : Type} [DecidableEq Name] {U : Type} [URA U] {Lvl : Type} [Preorder Lvl]
variable {Λ : Labels} {α : Type}

local notation "𝕄" => MT nD τ sig Ix Val Name U Lvl

/-- A load through a memref owned at contents `X` continues at the rectangle of `X`, the memref still owned at `X`. -/
theorem wp_load_owns (defs : Defs nD τ sig Val Λ) (𝒱 : Variants) (c : Thread nD τ) (E : Set Name)
    {cs : CoreSpace} {s : Shape} {e : EltTy} {m : Memref sig c.2.kind cs s e} {q : PosShare TreeShare} {X : s.Idx → Val e} {r : Rect s}
    {hl : m.view.LoadsAt r.toLoadRect} {k : (r.shape.Idx → Val e) → Prog (TpuEff nD τ sig Val Λ c.2) α} {Q : α → sProp 𝕄} :
    (owns c m q X : sProp 𝕄)
      ⊢ iprop((owns c m q X -∗ wp frame (wpE defs 𝒱 c none) E (k (View.ld X r)) Q)
        -∗ wp frame (wpE defs 𝒱 c none) E (.op (.load m r.toLoadRect hl) k) Q) := by
  unfold owns
  iintro ⟨%f, %hf, H⟩ Hk
  subst hf
  sl_step
  iapply Hk
  iexists f
  isplitr
  · ipureintro; rfl
  · iexact H

/-- A store over a rectangle of a memref owned at contents `X` leaves it owned at `X` with the payload put there. -/
theorem wp_store_owns (defs : Defs nD τ sig Val Λ) (𝒱 : Variants) (c : Thread nD τ) (E : Set Name)
    {cs : CoreSpace} {s : Shape} {e : EltTy} {m : Memref sig c.2.kind cs s e} {X : s.Idx → Val e} {off size : Fin s.rank → ℕ}
    {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} {Q : α → sProp 𝕄} :
    (owns c m fullShare X : sProp 𝕄)
      ⊢ iprop((owns c m fullShare (VecWindow.put X off size w) -∗ wp frame (wpE defs 𝒱 c none) E (k ⟨⟩) Q)
        -∗ wp frame (wpE defs 𝒱 c none) E (.op (.store m (Rect.unit off size inb) w Finset.univ hx hm) k) Q) := by
  unfold owns
  iintro ⟨%f, %hf, H⟩ Hk
  subst hf
  sl_step
  iapply Hk
  iexists _
  isplitr
  · ipureintro
    exact m.view.read_writes_cons_put f inb w [] rfl
  · iexact H

/-- A load of all of it reads the contents. -/
theorem ld_full {Val : EltTy → Type} {s : Shape} {e : EltTy} (X : s.Idx → Val e) {off : Fin s.rank → ℕ} (inb : ∀ a, off a + s.size a ≤ s.size a) :
    View.ld X (Rect.unit off s.size inb) = X := by
  funext y
  exact congrArg X (funext fun a => Fin.ext (by
    show off a + 1 * (y a).val = (y a).val
    have := inb a; omega))

end Cert.OwnsRules

end
-- ==== Proof.Body.lean ====
/-
  The kernel's body, as a recursion over the chunks, and its triple.

  The printed body is 32 repetitions of one text at growing offsets. Here that text is a definition over the chunk's
  number (`step`, `last`), the printed parts are its instances, and the run of the body is proved by one induction over
  the chunks: on the rows of the chunks already stored the result's buffer holds `blockOut`.
-/
module

public import proofs.«01_k».proof.Proof.Chunk
public import proofs.«01_k».proof.Proof.Rules
public import proofs.«01_k».proof.Proof.Gen.KernelIdeal.Frame

@[expose] public section

set_option maxRecDepth 16384

noncomputable section

namespace Cert.KernelIdeal.Fused

open Cert.KernelIdeal Cert.KernelIdeal.Gen Cert.OwnsRules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body over the chunk's number -/

/-- What one chunk hands on to the store of its result: its rows, the two columns of masks, and the two masked hidden layers. -/
abbrev Carry (F : FTy → Type) : Type :=
  Σ' (_ : FVec F S512x128 .f32) (_ : FVec F S512x1 .f32) (_ : FVec F S512x1 .f32) (_ : FVec F S512x128 .bf16), FVec F S512x128 .f32

/-- Chunk `k` handed on: its values from its rows `x` and the block's masks. -/
def carry (k : ℕ) (hk : k < 32) (mp mn : FVec F S128x128 .f32) (b0 : FVec F S1x256 .f32) (x : Vec F S512x128 .f32)
    (w0 : Vec F S128x256 .bf16) : Carry F :=
  ⟨k0_pay15 x, maskCol mp k hk, maskCol mn k hk, posHidden k hk mp b0 x w0, negHidden k hk mn b0 x w0⟩

/-- The store of chunk `k`, from what it handed on, then the next chunk's values. -/
def step (k : ℕ) (hk : k + 1 < 32) (arg2 : Memref sig .tc .vmem S16384x128 .f32) (arg3 : Memref sig .tc .vmem S128x256 .bf16)
    (arg5 : Memref sig .tc .vmem S256x128 .bf16) (arg8 : Memref sig .tc .vmem S16384x128 .f32)
    (mp mn : FVec F S128x128 .f32) (b0 : FVec F S1x256 .f32) (bp bn : FVec F S1x128 .f32)
    (x : FVec F S512x128 .f32) (cp cn : FVec F S512x1 .f32) (hp : FVec F S512x128 .bf16) (hn : FVec F S512x128 .f32) :
    Prog (TpuEff nD τ sig (Elt F) Λ₀ .tc) (Carry F) := do
  let w1 : Vec F S256x128 .bf16 ← Prog.lift (.load arg5 (Rect.unit (s := S256x128) ![0, 0] S256x128.size inb_S256x128_S256x128_0_0).toLoadRect (View.loadsAt_vmem h_S256x128))
  let _ : Vec F S512x128 .f32 ← Prog.lift (.load arg8 (Rect.unit (s := S16384x128) ![512 * k, 0] S512x128.size (inb_chunk (by omega))).toLoadRect (View.loadsAt_vmem h_S512x128))
  Prog.lift (.store arg8 (Rect.unit (s := S16384x128) ![512 * k, 0] S512x128.size (inb_chunk (by omega))) (k0_pay14 bp bn x cp cn hp hn w1) Finset.univ (View.stores_vmem_bits_univ h_S512x128 rfl) (.inl rfl))
  let x' : Vec F S512x128 .f32 ← Prog.lift (.load arg2 (Rect.unit (s := S16384x128) ![512 * (k + 1), 0] S512x128.size (inb_chunk hk)).toLoadRect (View.loadsAt_vmem h_S512x128))
  let w0 : Vec F S128x256 .bf16 ← Prog.lift (.load arg3 (Rect.unit (s := S128x256) ![0, 0] S128x256.size inb_S128x256_S128x256_0_0).toLoadRect (View.loadsAt_vmem h_S128x256))
  pure (carry (k + 1) hk mp mn b0 x' w0)

/-- The store of the last chunk. -/
def last (arg5 : Memref sig .tc .vmem S256x128 .bf16) (arg8 : Memref sig .tc .vmem S16384x128 .f32) (bp bn : FVec F S1x128 .f32)
    (s : Carry F) : Prog (TpuEff nD τ sig (Elt F) Λ₀ .tc) PUnit := do
  let w1 : Vec F S256x128 .bf16 ← Prog.lift (.load arg5 (Rect.unit (s := S256x128) ![0, 0] S256x128.size inb_S256x128_S256x128_0_0).toLoadRect (View.loadsAt_vmem h_S256x128))
  let _ : Vec F S512x128 .f32 ← Prog.lift (.load arg8 (Rect.unit (s := S16384x128) ![512 * 31, 0] S512x128.size (inb_chunk (by omega))).toLoadRect (View.loadsAt_vmem h_S512x128))
  Prog.lift (.store arg8 (Rect.unit (s := S16384x128) ![512 * 31, 0] S512x128.size (inb_chunk (by omega))) (k0_pay14 bp bn s.1 s.2.1 s.2.2.1 s.2.2.2.1 s.2.2.2.2 w1) Finset.univ (View.stores_vmem_bits_univ h_S512x128 rfl) (.inl rfl))

/-- From chunk `k` on, `n` more chunks to go after it. -/
def steps (arg2 : Memref sig .tc .vmem S16384x128 .f32) (arg3 : Memref sig .tc .vmem S128x256 .bf16)
    (arg5 : Memref sig .tc .vmem S256x128 .bf16) (arg8 : Memref sig .tc .vmem S16384x128 .f32)
    (mp mn : FVec F S128x128 .f32) (b0 : FVec F S1x256 .f32) (bp bn : FVec F S1x128 .f32) :
    (n k : ℕ) → k + n = 31 → Carry F → Prog (TpuEff nD τ sig (Elt F) Λ₀ .tc) PUnit
  | 0, _, _, s => last arg5 arg8 bp bn s
  | n + 1, k, h, s =>
    step k (by omega) arg2 arg3 arg5 arg8 mp mn b0 bp bn s.1 s.2.1 s.2.2.1 s.2.2.2.1 s.2.2.2.2
      >>= steps arg2 arg3 arg5 arg8 mp mn b0 bp bn n (k + 1) (by omega)

/-- The whole body: the loads of the block's masks, the biases and chunk 0, then the chunks in order. -/
def body (arg1 : Memref sig .tc .vmem S128x128 .f32) (arg2 : Memref sig .tc .vmem S16384x128 .f32) (arg3 : Memref sig .tc .vmem S128x256 .bf16)
    (arg4 : Memref sig .tc .vmem S1x256 .f32) (arg5 : Memref sig .tc .vmem S256x128 .bf16) (arg6 : Memref sig .tc .vmem S1x128 .f32)
    (arg7 : Memref sig .tc .vmem S1x128 .f32) (arg8 : Memref sig .tc .vmem S16384x128 .f32) :
    Prog (TpuEff nD τ sig (Elt F) Λ₀ .tc) PUnit := do
  let v0 : Vec F S128x128 .f32 ← Prog.lift (.load arg1 (Rect.unit (s := S128x128) ![0, 0] S128x128.size inb_S128x128_S128x128_0_0).toLoadRect (View.loadsAt_vmem h_S128x128))
  let v9 : Vec F S1x256 .f32 ← Prog.lift (.load arg4 (Rect.unit (s := S1x256) ![0, 0] S1x256.size inb_S1x256_S1x256_0_0).toLoadRect (View.loadsAt_vmem h_S1x256))
  let v11 : Vec F S1x128 .f32 ← Prog.lift (.load arg6 (Rect.unit (s := S1x128) ![0, 0] S1x128.size inb_S1x128_S1x128_0_0).toLoadRect (View.loadsAt_vmem h_S1x128))
  let v13 : Vec F S1x128 .f32 ← Prog.lift (.load arg7 (Rect.unit (s := S1x128) ![0, 0] S1x128.size inb_S1x128_S1x128_0_0).toLoadRect (View.loadsAt_vmem h_S1x128))
  let v15 : Vec F S512x128 .f32 ← Prog.lift (.load arg2 (Rect.unit (s := S16384x128) ![512 * 0, 0] S512x128.size (inb_chunk (by omega))).toLoadRect (View.loadsAt_vmem h_S512x128))
  let v28 : Vec F S128x256 .bf16 ← Prog.lift (.load arg3 (Rect.unit (s := S128x256) ![0, 0] S128x256.size inb_S128x256_S128x256_0_0).toLoadRect (View.loadsAt_vmem h_S128x256))
  steps arg2 arg3 arg5 arg8 (k0_pay3 v0) (k0_pay4 v0) (k0_pay5 v9) (k0_pay6 v11) (k0_pay7 v13) 31 0 rfl
    (carry 0 (by omega) (k0_pay3 v0) (k0_pay4 v0) (k0_pay5 v9) v15 v28)

set_option maxRecDepth 65536 in
/-- The printed body is this recursion: each printed part is the text of its chunk. -/
theorem body_eq : cc0__fused_kernel (F := F)
    = fun i arg1 harg1 arg2 harg2 arg3 harg3 arg4 harg4 arg5 harg5 arg6 harg6 arg7 harg7 arg8 harg8 =>
        body arg1 arg2 arg3 arg4 arg5 arg6 arg7 arg8 := rfl

/-! ## The triple -/

/-- From chunk `k` on: if the result's buffer holds the block on the rows of the chunks before `k`, it ends holding all of it,
    and the operands' buffers are unchanged. -/
theorem steps_wp (𝒱 : Variants) (c : Dev nD) (E : Set ℕ) (arg2 : Memref sig .tc .vmem S16384x128 .f32) (arg3 : Memref sig .tc .vmem S128x256 .bf16)
    (arg5 : Memref sig .tc .vmem S256x128 .bf16) (arg8 : Memref sig .tc .vmem S16384x128 .f32)
    (mp mn : FVec F S128x128 .f32) (b0 : FVec F S1x256 .f32) (bp bn : FVec F S1x128 .f32)
    (X : S16384x128.Idx → Elt F .f32) (w0 : Vec F S128x256 .bf16) (w1 : Vec F S256x128 .bf16) (K : PUnit → sProp 𝕄) :
    ∀ (n k : ℕ) (h : k + n = 31) (hk : k < 32) (D : S16384x128.Idx → Elt F .f32)
      (hD : ∀ j : S16384x128.Idx, (j 0).val < 512 * k → D j = blockOf mp mn b0 bp bn X w0 w1 j),
    iprop((owns (c : Thread nD τ) arg2 fullShare X ∗ owns (c : Thread nD τ) arg3 fullShare w0 ∗ owns (c : Thread nD τ) arg5 fullShare w1
          ∗ owns (c : Thread nD τ) arg8 fullShare D)
        ∗ (iprop(owns (c : Thread nD τ) arg2 fullShare X ∗ owns (c : Thread nD τ) arg3 fullShare w0 ∗ owns (c : Thread nD τ) arg5 fullShare w1
            ∗ owns (c : Thread nD τ) arg8 fullShare (blockOf mp mn b0 bp bn X w0 w1)) -∗ K ⟨⟩))
      ⊢ wp frame (wpE (defs₀ (F := F)) 𝒱 c none) E
          (steps arg2 arg3 arg5 arg8 mp mn b0 bp bn n k h (carry k hk mp mn b0 (rowsOf X k hk) w0)) K := by
  intro n
  induction n with
  | zero =>
    intro k h hk D hD
    obtain rfl : k = 31 := by omega
    simp only [steps, last, Prog.lift, Prog.bind_op, Prog.bind_ret]
    iintro ⟨⟨H2, H3, H5, H8⟩, Hk⟩
    iapply (wp_load_owns (defs₀ (F := F)) 𝒱 c E) $$ H5
    iintro H5
    iapply (wp_load_owns (defs₀ (F := F)) 𝒱 c E) $$ H8
    iintro H8
    iapply (wp_store_owns (defs₀ (F := F)) 𝒱 c E) $$ H8
    iintro H8
    iapply (le_wp_ret _ _)
    iapply Hk
    isplitl [H2]
    · iexact H2
    isplitl [H3]
    · iexact H3
    isplitl [H5]
    · iexact H5
    · rw [ld_full w1, ← show VecWindow.put D (![512 * 31, 0] : Fin 2 → ℕ) S512x128.size
          (chunkOut 31 hk mp mn b0 bp bn (rowsOf X 31 hk) w0 w1) = blockOf mp mn b0 bp bn X w0 w1 from
        funext fun j => put_chunk mp mn b0 bp bn X w0 w1 D 31 hk hD j (j 0).isLt]
      iexact H8
  | succ n ih =>
    intro k h hk D hD
    have hk' : k + 1 < 32 := by omega
    simp only [steps, step, Prog.lift, Prog.bind_op, Prog.bind_ret]
    iintro ⟨⟨H2, H3, H5, H8⟩, Hk⟩
    iapply (wp_load_owns (defs₀ (F := F)) 𝒱 c E) $$ H5
    iintro H5
    iapply (wp_load_owns (defs₀ (F := F)) 𝒱 c E) $$ H8
    iintro H8
    iapply (wp_store_owns (defs₀ (F := F)) 𝒱 c E) $$ H8
    iintro H8
    iapply (wp_load_owns (defs₀ (F := F)) 𝒱 c E) $$ H2
    iintro H2
    iapply (wp_load_owns (defs₀ (F := F)) 𝒱 c E) $$ H3
    iintro H3
    rw [ld_full w1, ld_full w0]
    iapply (ih (k + 1) (by omega) hk' _ (put_chunk mp mn b0 bp bn X w0 w1 D k hk hD))
    isplitl [H2 H3 H5 H8]
    · isplitl [H2]
      · iexact H2
      isplitl [H3]
      · iexact H3
      isplitl [H5]
      · iexact H5
      · iexact H8
    · iexact Hk

/-- The body on any eight buffers: the result's buffer ends holding `blockOut` of what the operands' hold, those unchanged. -/
theorem body_wp (𝒱 : Variants) (c : Dev nD) (E : Set ℕ) (arg1 : Memref sig .tc .vmem S128x128 .f32) (arg2 : Memref sig .tc .vmem S16384x128 .f32)
    (arg3 : Memref sig .tc .vmem S128x256 .bf16) (arg4 : Memref sig .tc .vmem S1x256 .f32) (arg5 : Memref sig .tc .vmem S256x128 .bf16)
    (arg6 : Memref sig .tc .vmem S1x128 .f32) (arg7 : Memref sig .tc .vmem S1x128 .f32) (arg8 : Memref sig .tc .vmem S16384x128 .f32)
    (O : Vec F S128x128 .f32) (X : S16384x128.Idx → Elt F .f32) (w0 : Vec F S128x256 .bf16) (b0 : Vec F S1x256 .f32)
    (w1 : Vec F S256x128 .bf16) (bp bn : Vec F S1x128 .f32) (D : S16384x128.Idx → Elt F .f32) (K : PUnit → sProp 𝕄) :
    iprop((owns (c : Thread nD τ) arg1 fullShare O ∗ owns (c : Thread nD τ) arg2 fullShare X ∗ owns (c : Thread nD τ) arg3 fullShare w0
          ∗ owns (c : Thread nD τ) arg4 fullShare b0 ∗ owns (c : Thread nD τ) arg5 fullShare w1 ∗ owns (c : Thread nD τ) arg6 fullShare bp
          ∗ owns (c : Thread nD τ) arg7 fullShare bn ∗ owns (c : Thread nD τ) arg8 fullShare D)
        ∗ (iprop(owns (c : Thread nD τ) arg1 fullShare O ∗ owns (c : Thread nD τ) arg2 fullShare X ∗ owns (c : Thread nD τ) arg3 fullShare w0
          ∗ owns (c : Thread nD τ) arg4 fullShare b0 ∗ owns (c : Thread nD τ) arg5 fullShare w1 ∗ owns (c : Thread nD τ) arg6 fullShare bp
          ∗ owns (c : Thread nD τ) arg7 fullShare bn ∗ owns (c : Thread nD τ) arg8 fullShare (blockOut O X w0 b0 w1 bp bn)) -∗ K ⟨⟩))
      ⊢ wp frame (wpE (defs₀ (F := F)) 𝒱 c none) E (body arg1 arg2 arg3 arg4 arg5 arg6 arg7 arg8) K := by
  simp only [body, Prog.lift, Prog.bind_op, Prog.bind_ret]
  iintro ⟨⟨H1, H2, H3, H4, H5, H6, H7, H8⟩, Hk⟩
  iapply (wp_load_owns (defs₀ (F := F)) 𝒱 c E) $$ H1
  iintro H1
  iapply (wp_load_owns (defs₀ (F := F)) 𝒱 c E) $$ H4
  iintro H4
  iapply (wp_load_owns (defs₀ (F := F)) 𝒱 c E) $$ H6
  iintro H6
  iapply (wp_load_owns (defs₀ (F := F)) 𝒱 c E) $$ H7
  iintro H7
  iapply (wp_load_owns (defs₀ (F := F)) 𝒱 c E) $$ H2
  iintro H2
  iapply (wp_load_owns (defs₀ (F := F)) 𝒱 c E) $$ H3
  iintro H3
  rw [ld_full O, ld_full b0, ld_full bp, ld_full bn, ld_full w0]
  iapply (steps_wp 𝒱 c E arg2 arg3 arg5 arg8 (k0_pay3 O) (k0_pay4 O) (k0_pay5 b0) (k0_pay6 bp) (k0_pay7 bn) X w0 w1 K 31 0 rfl (by omega) D
    (fun j hj => absurd hj (Nat.not_lt_zero _)))
  isplitl [H2 H3 H5 H8]
  · isplitl [H2]
    · iexact H2
    isplitl [H3]
    · iexact H3
    isplitl [H5]
    · iexact H5
    · iexact H8
  · iintro ⟨H2, H3, H5, H8⟩
    iapply Hk
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    · iexact H8

end Cert.KernelIdeal.Fused

end
-- ==== Proof.Twin.lean ====
/-
  The program as run and its ideal twin are the same text: nothing was replaced, so what is proved of the twin at every float
  type holds of the program.
-/
module

public import proofs.«01_k».proof.Proof.Body
public import proofs.«01_k».proof.Proof.Gen.Kernel

@[expose] public section

set_option maxRecDepth 65536

noncomputable section

namespace Cert.KernelIdeal.Fused

open Idealize.ShloMosaic Idealize.SL.Sem

variable {F : FTy → Type} [FloatOps F]

/-- The two programs declare the same kernel body. -/
theorem defs0_eq : Cert.Kernel.defs₀ (F := F) = Cert.KernelIdeal.defs₀ (F := F) := by
  refine congrArg Defs.onTc (funext fun l => funext fun x => ?_)
  match l, x with
  | 0, (t, s) => exact rfl
  | ⟨_ + 1, h⟩, _ => exact absurd h (Nat.not_lt.2 (Nat.le_add_left _ _))

/-- The two programs declare the same procedures. -/
theorem defs_eq : Cert.Kernel.defs (F := F) = Cert.KernelIdeal.defs (F := F) :=
  congrArg (Pipeline.defs Cert.KernelIdeal.pcfgs) defs0_eq

end Cert.KernelIdeal.Fused

end
-- ==== Proof.Launch.lean ====
/-
  The launch: the body's obligation at every grid point, and the two runs of the program that follow from it.

  The last block of the observations, of the node rows and of the result overhangs its array, and of the rows past the end
  nothing is known. Two runs are proved, for any float values: one that says nothing of the result (`run_frame`) and one
  where the result is a named array `G` (`run_value`), given that what the body stores is `G` on the rows inside the array,
  whatever lies past the end.
-/
module

public import proofs.«01_k».proof.Proof.Body
public import Idealize.ShloMosaic.Lib.Pipeline.ValueKit.Geometry

@[expose] public section

set_option maxRecDepth 16384

noncomputable section

namespace Cert.KernelIdeal.Fused

open Cert.KernelIdeal Cert.KernelIdeal.Gen Cert.OwnsRules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array's contents, one for each device. -/
abbrev Res (F : FTy → Type) [FloatOps F] : Type := Dev nD → S400000x128.Idx → Elt F .f32

/-- A filler for the rows of a block past its array's end, which nothing reads. -/
def filler (w : Fin cfg0.W) : (cfg0.win w).block.Idx → Elt F (cfg0.win w).elt := fun _ => Classical.arbitrary _

/-- Block `t` of the result array `G`: its rows inside the array. -/
def oblk (G : Res F) (c : Dev nD) (t : Fin cfg0.N) : ((cfg0.win 7).xblock (cfg0.grid.coords t)).Idx → Elt F (cfg0.win 7).elt :=
  ((cfg0.win 7).blk t).view.read (Elt F) (G c)

/-- The proof data: the arrays as the host operations leave them; after the body every operand's buffer holds its block and
    the result's holds the block of `G`. -/
def dats (G : Res F) (_ : Fin 1) (c : Dev nD) : Dat τ (Elt F) Unit ℕ (UR sig nD τ) ℕ cfg0 c where
  A w := V m c (Pipeline.arrRef spec0 w)
  after w t := match w with
    | ⟨0, _⟩ => (cfg0.win 0).fill (cfg0.grid.coords t) (filler 0) (iblk m c 0 t)
    | ⟨1, _⟩ => (cfg0.win 1).fill (cfg0.grid.coords t) (filler 1) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (cfg0.win 7).fill (cfg0.grid.coords t) (filler 7) (oblk G c t)
  Φ _ := Pipeline.ΦA spec0 c
  q _ := fullShare
  owed _ := 0

/-- The observations' buffer holds its block, on the rows inside the array; past them anything. -/
theorem before_0 (G : Res F) (c : Dev nD) (t : Fin cfg0.N) (d) :
    (dats m G 0 c).before 0 t d = (cfg0.win 0).fill (cfg0.grid.coords t) d (iblk m c 0 t) := by
  unfold Dat.before; rw [if_pos (fetch0_0 t)]; rfl

/-- The node rows' buffer holds its block, on the rows inside the array; past them anything. -/
theorem before_1 (G : Res F) (c : Dev nD) (t : Fin cfg0.N) (d) :
    (dats m G 0 c).before 1 t d = (cfg0.win 1).fill (cfg0.grid.coords t) d (iblk m c 1 t) := by
  unfold Dat.before; rw [if_pos (fetch0_1 t)]; rfl

/-- The printed body at a point is the recursion over the chunks on that point's buffers. -/
theorem defs_body (t : Fin cfg0.N) : defs₀ (F := F) .tc cfg0.body (cfg0.bodyArgs t (cfg0.slots t))
    = body (st0_0 t) (st0_1 t) (st0_2 t) (st0_3 t) (st0_4 t) (st0_5 t) (st0_6 t) (st0_7 t) := by
  show bodyAt0 t = _
  unfold bodyAt0
  rw [body_eq]

/-- What the body stores at point `t`, the buffers of the observations and of the node rows holding `d0` and `d1` past the
    arrays' end. -/
def stored (c : Dev nD) (t : Fin cfg0.N) (d0 : S128x128.Idx → Elt F .f32) (d1 : S16384x128.Idx → Elt F .f32) : S16384x128.Idx → Elt F .f32 :=
  blockOut ((cfg0.win 0).fill (cfg0.grid.coords t) d0 (iblk m c 0 t)) ((cfg0.win 1).fill (cfg0.grid.coords t) d1 (iblk m c 1 t))
    (iblk m c 2 t) (iblk m c 3 t) (iblk m c 4 t) (iblk m c 5 t) (iblk m c 6 t)

/-- The body at point `t`: the operands' buffers come back as they were, the result's holds what the body stores. -/
theorem point_wp (G : Res F) (c : Dev nD) (t : Fin cfg0.N) (d0 d1) (D) (R : sProp 𝕄) (K : PUnit → sProp 𝕄)
    (hK : iprop(R
        ∗ (∃ d, owns (c : Thread nD τ) (st0_0 t) fullShare ((cfg0.win 0).fill (cfg0.grid.coords t) d
            ((cfg0.win 0).cut (cfg0.grid.coords t) ((dats m G 0 c).after 0 t))))
        ∗ (∃ d, owns (c : Thread nD τ) (st0_1 t) fullShare ((cfg0.win 1).fill (cfg0.grid.coords t) d
            ((cfg0.win 1).cut (cfg0.grid.coords t) ((dats m G 0 c).after 1 t))))
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t)
        ∗ owns (c : Thread nD τ) (st0_7 t) fullShare (stored m c t d0 d1)) ⊢ K ⟨⟩) :
    iprop(R ∗ owns (c : Thread nD τ) (st0_0 t) fullShare ((cfg0.win 0).fill (cfg0.grid.coords t) d0 (iblk m c 0 t))
        ∗ owns (c : Thread nD τ) (st0_1 t) fullShare ((cfg0.win 1).fill (cfg0.grid.coords t) d1 (iblk m c 1 t))
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_7 t) fullShare D)
      ⊢ wp Idealize.ShloMosaic.frame (wpE (defs₀ (F := F)) Variants.none (c : Thread nD τ) none) Set.univ
          (body (st0_0 t) (st0_1 t) (st0_2 t) (st0_3 t) (st0_4 t) (st0_5 t) (st0_6 t) (st0_7 t)) K := by
  iintro ⟨HR, H0, H1, H2, H3, H4, H5, H6, H7⟩
  iapply (body_wp Variants.none c Set.univ (st0_0 t) (st0_1 t) (st0_2 t) (st0_3 t) (st0_4 t) (st0_5 t) (st0_6 t) (st0_7 t)
    ((cfg0.win 0).fill (cfg0.grid.coords t) d0 (iblk m c 0 t)) ((cfg0.win 1).fill (cfg0.grid.coords t) d1 (iblk m c 1 t))
    (iblk m c 2 t) (iblk m c 3 t) (iblk m c 4 t) (iblk m c 5 t) (iblk m c 6 t) D K)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨H0, H1, H2, H3, H4, H5, H6, H7⟩
    iapply hK
    isplitl [HR]; · iexact HR
    isplitl [H0]
    · iexists d0
      rw [show (dats m G 0 c).after 0 t = (cfg0.win 0).fill (cfg0.grid.coords t) (filler 0) (iblk m c 0 t) from rfl, (cfg0.win 0).cut_fill]
      iexact H0
    isplitl [H1]
    · iexists d1
      rw [show (dats m G 0 c).after 1 t = (cfg0.win 1).fill (cfg0.grid.coords t) (filler 1) (iblk m c 1 t) from rfl, (cfg0.win 1).cut_fill]
      iexact H1
    isplitl [H2]; · iexact H2
    isplitl [H3]; · iexact H3
    isplitl [H4]; · iexact H4
    isplitl [H5]; · iexact H5
    isplitl [H6]; · iexact H6
    iexact H7

/-- The body's obligation where nothing is said of the result's buffer. -/
theorem obligation_frame (G : Res F) (c : Dev nD) :
    BodyObligationLoose (dats m G 0 c) (defs₀ (F := F)) Variants.none () Set.univ (fun w => decide (w = 7)) := fun t => by
  rw [bigSep_W0, bigSep_W0]
  simp only [show ∀ w : Fin cfg0.W, w ≠ 7 → decide (w = 7) = false from fun _ h => decide_eq_false h,
    show decide ((7 : Fin cfg0.W) = 7) = true from rfl, ne_eq, not_false_eq_true, Fin.reduceEq, decide_true, decide_false]
  rw [show (dats m G 0 c).Φ t.succ = (dats m G 0 c).Φ t.castSucc from rfl,
    show (dats m G 0 c).owesAt () t.succ = (dats m G 0 c).owesAt () t.castSucc from rfl, defs_body]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m G c t d0, before_1 m G c t d1, before0_2_of m (dats m G 0 c) rfl (fun _ => rfl) t d2,
    before0_3_of m (dats m G 0 c) rfl (fun _ => rfl) t d3, before0_4_of m (dats m G 0 c) rfl (fun _ => rfl) t d4,
    before0_5_of m (dats m G 0 c) rfl (fun _ => rfl) t d5, before0_6_of m (dats m G 0 c) rfl (fun _ => rfl) t d6]
  iapply (point_wp m G c t d0 d1 d7 iprop((dats m G 0 c).Φ t.castSucc ∗ (dats m G 0 c).owesAt () t.castSucc) _ ?_)
  · iintro ⟨⟨HΦ, Ho⟩, H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists (stored m c t d0 d1)
    iexact H7
  · isplitl [HΦ Ho]
    · isplitl [HΦ]; · iexact HΦ
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body's obligation where the result's buffer holds `G` on the rows inside the array: it holds when what the body
    stores is `G` there whatever the operands' buffers hold past their arrays' ends. -/
theorem obligation_value (G : Res F) (c : Dev nD)
    (hres : ∀ t d0 d1, (cfg0.win 7).cut (cfg0.grid.coords t) (stored m c t d0 d1) = oblk G c t) :
    BodyObligationLoose (dats m G 0 c) (defs₀ (F := F)) Variants.none () Set.univ := fun t => by
  rw [bigSep_W0, bigSep_W0]
  simp only
  rw [show (dats m G 0 c).Φ t.succ = (dats m G 0 c).Φ t.castSucc from rfl,
    show (dats m G 0 c).owesAt () t.succ = (dats m G 0 c).owesAt () t.castSucc from rfl, defs_body]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m G c t d0, before_1 m G c t d1, before0_2_of m (dats m G 0 c) rfl (fun _ => rfl) t d2,
    before0_3_of m (dats m G 0 c) rfl (fun _ => rfl) t d3, before0_4_of m (dats m G 0 c) rfl (fun _ => rfl) t d4,
    before0_5_of m (dats m G 0 c) rfl (fun _ => rfl) t d5, before0_6_of m (dats m G 0 c) rfl (fun _ => rfl) t d6]
  iapply (point_wp m G c t d0 d1 ((dats m G 0 c).before 7 t d7)
    iprop((dats m G 0 c).Φ t.castSucc ∗ (dats m G 0 c).owesAt () t.castSucc) _ ?_)
  · iintro ⟨⟨HΦ, Ho⟩, H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists (stored m c t d0 d1)
    rw [show (dats m G 0 c).after 7 t = (cfg0.win 7).fill (cfg0.grid.coords t) (filler 7) (oblk G c t) from rfl,
      show (win0 7).cut (grid0.coords t) ((cfg0.win 7).fill (cfg0.grid.coords t) (filler 7) (oblk G c t)) = oblk G c t from
        (cfg0.win 7).cut_fill _ _ _, ← hres t d0 d1]
    rw [show (win0 7).fill (grid0.coords t) (stored m c t d0 d1) ((cfg0.win 7).cut (cfg0.grid.coords t) (stored m c t d0 d1))
      = stored m c t d0 d1 from (cfg0.win 7).fill_cut _ _]
    iexact H7
  · isplitl [HΦ Ho]
    · isplitl [HΦ]; · iexact HΦ
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- Every argument as the program found it, and no semaphore left up. -/
def Kept (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
  ∧ r.2.sem = fun _ => 0

/-- The program's run where nothing is said of the result: it ends, with every argument as it was and no semaphore left up. -/
theorem run_frame : θ_run (defs (F := F)) (onTc (τ := τ) (main (F := F))) ⟨m, fun _ => 0, ρ⟩ (Kept m) :=
  Pipeline.θ_run_frame_around_T_forget cfgs (dats m (fun c => V m c main_v11)) 0 launch0 defs₀ Variants.none
    (fun w => decide (w = 7)) {main_v12} m ρ main
    (fun c => obligation_frame m _ c)
    (fun c w => by unfold Dat.share; split <;> rfl)
    (fun c t => rfl) (V0 m) [hostOps1] sfx_sub sfx_fresh sfx_keeps
    (by
      intro ops hops op hop b hb
      simp only [List.mem_cons, List.mem_nil_iff, or_false] at hops
      subst hops
      simp only [hostOps1, List.mem_cons, List.mem_nil_iff, or_false] at hop
      subst hop
      rw [StableHlo.reshape_writes] at hb
      exact Finset.mem_singleton.mpr (by_contra fun h => StableHlo.devRef_ne_of_ne h (Finset.mem_singleton.mp hb)))
    (hmain m Variants.none) (fun c w => rfl) (fun c t => rfl) (Kept m)
    (fun r h => ⟨fun c => by
      have at_ := fun b h₁ h₂ (h₃ : b ≠ main_v12) => (h.1 c).2 b (Finset.mem_sdiff.mpr ⟨Pipeline.mem_restRefs_of b h₁ h₂, by simpa using h₃⟩)
      exact
      ⟨(at_ main_arg0 (by decide) (by decide) (by decide)).trans (V_main_arg0 m c),
        (at_ main_arg1 (by decide) (by decide) (by decide)).trans (V_main_arg1 m c),
        (at_ main_arg2 (by decide) (by decide) (by decide)).trans (V_main_arg2 m c),
        (at_ main_arg3 (by decide) (by decide) (by decide)).trans (V_main_arg3 m c),
        (at_ main_arg4 (by decide) (by decide) (by decide)).trans (V_main_arg4 m c),
        (at_ main_arg5 (by decide) (by decide) (by decide)).trans (V_main_arg5 m c),
        (at_ main_arg6 (by decide) (by decide) (by decide)).trans (V_main_arg6 m c),
        (at_ main_arg7 (by decide) (by decide) (by decide)).trans (V_main_arg7 m c),
        (at_ main_arg8 (by decide) (by decide) (by decide)).trans (V_main_arg8 m c),
        (at_ main_arg9 (by decide) (by decide) (by decide)).trans (V_main_arg9 m c)⟩, h.2⟩)

/-- The result array after the launch is `G`: every row lies in the block of some grid point. -/
theorem arr_result (G : Res F) (c : Dev nD) : (dats m G 0 c).arrAt 7 cfg0.N = G c :=
  (dats m G 0 c).arrAt_eq_of_covers 7 (G c) (by decide +kernel) fun t _ y =>
    (cfg0.win 7).fill_xinj (cfg0.grid.coords t) (filler 7) (oblk G c t) y

/-- The program's run where the result is named: when what the body stores is `G` on the rows inside the array, the run ends
    with the result the reshaped `G`, every argument as it was and no semaphore left up. -/
theorem run_value (G : Res F)
    (hres : ∀ c t d0 d1, (cfg0.win 7).cut (cfg0.grid.coords t) (stored m c t d0 d1) = oblk G c t) :
    θ_run (defs (F := F)) (onTc (τ := τ) (main (F := F))) ⟨m, fun _ => 0, ρ⟩ (fun r =>
      (∀ c : Dev nD, r.2.mem ((c.tc : Thread nD τ).loc main_v12) = shapeCast S8x50000x128 (G c) shapeCasts_S400000x128_S8x50000x128)
      ∧ Kept m r) :=
  Pipeline.θ_run_frame_around cfgs (dats m G) 0 launch0 defs₀ Variants.none m ρ main
    (fun c => obligation_value m G c (hres c))
    (fun c w => by unfold Dat.share; split <;> rfl)
    (fun c t => rfl) (V0 m) [hostOps1] sfx_sub sfx_fresh sfx_keeps
    (hmain m Variants.none) (fun c w => rfl) (fun c t => rfl) _
    (fun r h => ⟨fun c => by
      refine ((h.1 c).2 main_v12 (Pipeline.mem_restRefs_of main_v12 (by decide) (by decide))).trans ?_
      unfold Pipeline.afterTail₀
      simp only [hostOps1, List.flatten_cons, List.flatten_nil, List.append_nil, StableHlo.after_cons, StableHlo.after_nil]
      refine (StableHlo.reshape_result main_v11 main_v12 _ _ _ _ _).trans ?_
      have e := (Pipeline.withArrays_arr spec0 launch0.win.arr_inj c (V0 m c) (fun w => (dats m G 0 c).arrAt w (cfgs 0).N) 7).trans
        (arr_result m G c)
      funext i
      exact congrArg (fun X : S400000x128.Idx → Elt F .f32 => shapeCast S8x50000x128 X shapeCasts_S400000x128_S8x50000x128 i) e,
      fun c => by
      have at_ := fun b h₁ h₂ => (h.1 c).2 b (Pipeline.mem_restRefs_of b h₁ h₂)
      exact
      ⟨(at_ main_arg0 (by decide) (by decide)).trans (W_main_arg0 m _ c),
        (at_ main_arg1 (by decide) (by decide)).trans (W_main_arg1 m _ c),
        (at_ main_arg2 (by decide) (by decide)).trans (W_main_arg2 m _ c),
        (at_ main_arg3 (by decide) (by decide)).trans (W_main_arg3 m _ c),
        (at_ main_arg4 (by decide) (by decide)).trans (W_main_arg4 m _ c),
        (at_ main_arg5 (by decide) (by decide)).trans (W_main_arg5 m _ c),
        (at_ main_arg6 (by decide) (by decide)).trans (W_main_arg6 m _ c),
        (at_ main_arg7 (by decide) (by decide)).trans (W_main_arg7 m _ c),
        (at_ main_arg8 (by decide) (by decide)).trans (W_main_arg8 m _ c),
        (at_ main_arg9 (by decide) (by decide)).trans (W_main_arg9 m _ c)⟩, h.2⟩)

end Cert.KernelIdeal.Fused

end
-- ==== Proof.Value.lean ====
/-
  What one row of a block holds at the ideal, as a formula over the row alone.
-/
module

public import proofs.«01_k».proof.Proof.Chunk
public import Idealize.ShloMosaic.PureOps.Ideal
public import Idealize.ShloMosaic.Lib.ValueIdx

@[expose] public section

set_option maxRecDepth 16384

noncomputable section

namespace Cert.KernelIdeal.Fused

open Cert.KernelIdeal Cert.KernelIdeal.Gen
open Idealize.ShloMosaic

/-- Row `i` of chunk `k`'s masks is the transposed masks at row `i % 128`, column `4 k + i / 128`. -/
theorem maskCol_apply (v : FVec Ideal S128x128 .f32) (k : ℕ) (hk : k < 32) (i : Fin 512) (z : Fin 1) :
    maskCol v k hk (ix2 i z) = v (ix2 ⟨i.val % 128, Nat.mod_lt _ (by decide)⟩ ⟨4 * k + i.val / 128, by omega⟩) := by
  unfold maskCol col
  pointwise
  have at_ : ∀ {a b c d : ℕ} (ha hb hc hd), a = c → b = d → v (ix2 (⟨a, ha⟩ : Fin 128) (⟨b, hb⟩ : Fin 128))
      = v (ix2 (⟨c, hc⟩ : Fin 128) (⟨d, hd⟩ : Fin 128)) := by
    intro a b c d ha hb hc hd h₁ h₂; subst h₁; subst h₂; rfl
  split_ifs <;> exact at_ _ _ _ _ (by omega) (by omega)

/-- One hidden unit of a network on a row: the row times the unit's column of weights, plus its bias, cut at zero. -/
def hidden (x : Fin 128 → EReal) (w : Fin 128 → EReal) (b : EReal) : EReal := max (∑ k, x k * w k + b) 0

/-- What the kernel computes for a row `x` whose observation is `o`, at lane `l`: both networks' hidden layers, each times its
    mask, through the second layer; the biases times the masks; and the row times what the masks leave. -/
def fusedRow (o : EReal) (x : Fin 128 → EReal) (w0 : Vec Ideal S128x256 .bf16) (b0 : Vec Ideal S1x256 .f32)
    (w1 : Vec Ideal S256x128 .bf16) (bp bn : Vec Ideal S1x128 .f32) (l : Fin 128) : EReal :=
  ∑ k : Fin 128, hidden x (fun a => w0 (ix2 a ⟨k.val, by omega⟩)) (b0 (ix2 0 ⟨k.val, by omega⟩)) * max o 0
        * w1 (ix2 ⟨k.val, by omega⟩ l)
    + ∑ k : Fin 128, hidden x (fun a => w0 (ix2 a ⟨128 + k.val, by omega⟩)) (b0 (ix2 0 ⟨128 + k.val, by omega⟩)) * max (0 - o) 0
        * w1 (ix2 ⟨128 + k.val, by omega⟩ l)
    + max o 0 * bp (ix2 0 l) + max (0 - o) 0 * bn (ix2 0 l) + (1 - max o 0 - max (0 - o) 0) * x l

/-- A row of a chunk's hidden layer. -/
theorem pay18_apply (b0 : FVec Ideal S1x256 .f32) (x : Vec Ideal S512x128 .f32) (w0 : Vec Ideal S128x256 .bf16) (i : Fin 512) (j : Fin 256) :
    k0_pay18 b0 x w0 (ix2 i j) = hidden (fun k => x (ix2 i k)) (fun k => w0 (ix2 k j)) (b0 (ix2 0 j)) := by
  unfold hidden
  pointwise [k0_pay18, k0_pay15]

/-- A row of a chunk's second layer and what is added to it. -/
theorem pay14_apply (bp bn : FVec Ideal S1x128 .f32) (x : FVec Ideal S512x128 .f32) (p n : FVec Ideal S512x1 .f32)
    (hp : FVec Ideal S512x128 .bf16) (hn : FVec Ideal S512x128 .f32) (w1 : Vec Ideal S256x128 .bf16) (i : Fin 512) (l : Fin 128) :
    k0_pay14 bp bn x p n hp hn w1 (ix2 i l)
      = ∑ k : Fin 128, hp (ix2 i k) * w1 (ix2 ⟨k.val, by omega⟩ l) + ∑ k : Fin 128, hn (ix2 i k) * w1 (ix2 ⟨128 + k.val, by omega⟩ l)
        + p (ix2 i 0) * bp (ix2 0 l) + n (ix2 i 0) * bn (ix2 0 l) + (1 - p (ix2 i 0) - n (ix2 i 0)) * x (ix2 i l) := by
  pointwise [k0_pay14]

/-- The positive mask: the transposed observations cut at zero. -/
theorem pay3_apply (O : Vec Ideal S128x128 .f32) (i l : Fin 128) : k0_pay3 O (ix2 i l) = max (O (ix2 l i)) 0 := by
  pointwise [k0_pay3, k0_pay2]

/-- The negative mask: the transposed observations negated and cut at zero. -/
theorem pay4_apply (O : Vec Ideal S128x128 .f32) (i l : Fin 128) : k0_pay4 O (ix2 i l) = max (0 - O (ix2 l i)) 0 := by
  pointwise [k0_pay4, k0_pay2]

/-- A chunk's positive hidden layer at a row: the first 128 hidden units, times the row's positive mask. -/
theorem posHidden_apply (k : ℕ) (hk : k < 32) (mp : FVec Ideal S128x128 .f32) (b0 : FVec Ideal S1x256 .f32) (x : Vec Ideal S512x128 .f32)
    (w0 : Vec Ideal S128x256 .bf16) (i : Fin 512) (j : Fin 128) :
    posHidden k hk mp b0 x w0 (ix2 i j) = k0_pay18 b0 x w0 (ix2 i ⟨j.val, by omega⟩) * maskCol mp k hk (ix2 i 0) := by
  unfold posHidden
  generalize maskCol mp k hk = M
  generalize k0_pay18 b0 x w0 = H
  pointwise

/-- A chunk's negative hidden layer at a row: the last 128 hidden units, times the row's negative mask. -/
theorem negHidden_apply (k : ℕ) (hk : k < 32) (mn : FVec Ideal S128x128 .f32) (b0 : FVec Ideal S1x256 .f32) (x : Vec Ideal S512x128 .f32)
    (w0 : Vec Ideal S128x256 .bf16) (i : Fin 512) (j : Fin 128) :
    negHidden k hk mn b0 x w0 (ix2 i j) = k0_pay18 b0 x w0 (ix2 i ⟨128 + j.val, by omega⟩) * maskCol mn k hk (ix2 i 0) := by
  unfold negHidden
  generalize maskCol mn k hk = M
  generalize k0_pay18 b0 x w0 = H
  pointwise

/-- The row of the block at chunk `k`, row `i` of the chunk. -/
theorem rowsOf_apply (X : S16384x128.Idx → Elt Ideal .f32) (k : ℕ) (hk : k < 32) (i : Fin 512) (l : Fin 128) :
    rowsOf X k hk (ix2 i l) = X (ix2 ⟨512 * k + i.val, by omega⟩ l) := by
  unfold rowsOf View.ld
  refine congrArg X (funext fun a => Fin.ext ?_)
  match a with
  | ⟨0, _⟩ => show 512 * k + 1 * i.val = 512 * k + i.val; omega
  | ⟨1, _⟩ => show 0 + 1 * l.val = l.val; omega

/-- **What the body stores, row by row.** Row `r` depends on row `r` of the block of node rows and on one observation, the one
    at row `r / 128`, column `r % 128` of the block of observations. -/
theorem blockOut_apply (O : Vec Ideal S128x128 .f32) (X : S16384x128.Idx → Elt Ideal .f32) (w0 : Vec Ideal S128x256 .bf16)
    (b0 : Vec Ideal S1x256 .f32) (w1 : Vec Ideal S256x128 .bf16) (bp bn : Vec Ideal S1x128 .f32) (r : Fin 16384) (l : Fin 128) :
    blockOut O X w0 b0 w1 bp bn (ix2 r l)
      = fusedRow (O (ix2 ⟨r.val / 128, by omega⟩ ⟨r.val % 128, Nat.mod_lt _ (by decide)⟩)) (fun k => X (ix2 r k)) w0 b0 w1 bp bn l := by
  have hr : (⟨512 * (r.val / 512) + r.val % 512, by omega⟩ : Fin 16384) = r := Fin.ext (by show 512 * (r.val / 512) + r.val % 512 = r.val; omega)
  have ho : ∀ h₁ h₂, O (ix2 (⟨4 * (r.val / 512) + r.val % 512 / 128, h₁⟩ : Fin 128) (⟨r.val % 512 % 128, h₂⟩ : Fin 128))
      = O (ix2 ⟨r.val / 128, by omega⟩ ⟨r.val % 128, Nat.mod_lt _ (by decide)⟩) := fun h₁ h₂ => by
    refine congrArg O (funext fun a => Fin.ext ?_)
    match a with
    | ⟨0, _⟩ => show 4 * (r.val / 512) + r.val % 512 / 128 = r.val / 128; omega
    | ⟨1, _⟩ => show r.val % 512 % 128 = r.val % 128; omega
  have e5 : k0_pay5 b0 = b0 := by pointwise [k0_pay5]
  have e6 : k0_pay6 bp = bp := by pointwise [k0_pay6]
  have e7 : k0_pay7 bn = bn := by pointwise [k0_pay7]
  have e15 : ∀ x : Vec Ideal S512x128 .f32, k0_pay15 x = x := fun x => by pointwise [k0_pay15]
  show chunkOut (r.val / 512) (chunk_lt r) (k0_pay3 O) (k0_pay4 O) (k0_pay5 b0) (k0_pay6 bp) (k0_pay7 bn)
    (rowsOf X (r.val / 512) (chunk_lt r)) w0 w1 (ix2 ⟨r.val % 512, Nat.mod_lt _ (by decide)⟩ l) = _
  unfold chunkOut fusedRow
  rw [pay14_apply, e5, e6, e7]
  simp only [posHidden_apply, negHidden_apply, pay18_apply, maskCol_apply, pay3_apply, pay4_apply, rowsOf_apply, e15, hr, ho]

end Cert.KernelIdeal.Fused

end
-- ==== Proof.Result.lean ====
/-
  What the launch leaves in the result array at the ideal, row by row, from the arrays the host operations prepare.
-/
module

public import proofs.«01_k».proof.Proof.Launch
public import proofs.«01_k».proof.Proof.Value

@[expose] public section

set_option maxRecDepth 16384

noncomputable section

namespace Cert.KernelIdeal.Fused

open Cert.KernelIdeal Cert.KernelIdeal.Gen
open Idealize.ShloMosaic Idealize.ShloMosaic.TcCoe
open Idealize.SL.Sem
open Idealize.ShloMosaic.Pipeline (Window)

variable (m : (ℓ : Loc nD τ sig) → Buf (Elt Ideal) ℓ)

/-- Block `t` of the observations, of the node rows and of the result is block `t` of its array along the rows. -/
theorem index_rows (t : Fin cfg0.N) :
    (cfg0.win 0).index t 0 = t.val ∧ (cfg0.win 0).index t 1 = 0 ∧ (cfg0.win 1).index t 0 = t.val ∧ (cfg0.win 1).index t 1 = 0
      ∧ (cfg0.win 7).index t 0 = t.val ∧ (cfg0.win 7).index t 1 = 0 := by
  revert t; decide +kernel

/-- Each of those blocks has its full height or ends with its array. -/
theorem xsize_rows (t : Fin cfg0.N) :
    128 * t.val + (cfg0.win 0).xsize (cfg0.grid.coords t) 0 = min (128 * t.val + 128) 3125
      ∧ (cfg0.win 0).xsize (cfg0.grid.coords t) 1 = 128
      ∧ 16384 * t.val + (cfg0.win 1).xsize (cfg0.grid.coords t) 0 = min (16384 * t.val + 16384) 400000
      ∧ (cfg0.win 1).xsize (cfg0.grid.coords t) 1 = 128
      ∧ 16384 * t.val + (cfg0.win 7).xsize (cfg0.grid.coords t) 0 = min (16384 * t.val + 16384) 400000
      ∧ (cfg0.win 7).xsize (cfg0.grid.coords t) 1 = 128 := by
  revert t; decide +kernel

/-- The observations' buffer at a row inside the array. -/
theorem fill_obs (c : Dev nD) (t : Fin cfg0.N) (d) (a b : Fin 128) (h : 128 * t.val + a.val < 3125) :
    (cfg0.win 0).fill (cfg0.grid.coords t) d (iblk m c 0 t) (ix2 a b : S128x128.Idx)
      = V m c main_v2 (ix2 (⟨128 * t.val + a.val, h⟩ : Fin 3125) b) := by
  obtain ⟨i0, i1, -⟩ := index_rows t
  obtain ⟨x0, x1, -⟩ := xsize_rows t
  let y : ((cfg0.win 0).xblock (cfg0.grid.coords t)).Idx := fun ax => match ax with
    | ⟨0, _⟩ => ⟨a.val, by show a.val < (cfg0.win 0).xsize (cfg0.grid.coords t) 0; omega⟩
    | ⟨1, _⟩ => ⟨b.val, by show b.val < (cfg0.win 0).xsize (cfg0.grid.coords t) 1; omega⟩
  have hy : (cfg0.win 0).xinj (cfg0.grid.coords t) y = (ix2 a b : S128x128.Idx) := funext fun ax => Fin.ext (by
    match ax with
    | ⟨0, _⟩ => rfl
    | ⟨1, _⟩ => rfl)
  rw [← hy, (cfg0.win 0).fill_xinj]
  refine congrArg (V m c main_v2) (funext fun ax => Fin.ext ?_)
  match ax with
  | ⟨0, _⟩ => exact ((cfg0.win 0).rect_emb_val t y 0).trans (by rw [i0]; show t.val * 128 + a.val = 128 * t.val + a.val; omega)
  | ⟨1, _⟩ => exact ((cfg0.win 0).rect_emb_val t y 1).trans (by rw [i1]; show 0 * 128 + b.val = b.val; omega)

/-- The node rows' buffer at a row inside the array. -/
theorem fill_rows (c : Dev nD) (t : Fin cfg0.N) (d) (a : Fin 16384) (b : Fin 128) (h : 16384 * t.val + a.val < 400000) :
    (cfg0.win 1).fill (cfg0.grid.coords t) d (iblk m c 1 t) (ix2 a b : S16384x128.Idx)
      = V m c main_v0 (ix2 (⟨16384 * t.val + a.val, h⟩ : Fin 400000) b) := by
  obtain ⟨-, -, i0, i1, -⟩ := index_rows t
  obtain ⟨-, -, x0, x1, -⟩ := xsize_rows t
  let y : ((cfg0.win 1).xblock (cfg0.grid.coords t)).Idx := fun ax => match ax with
    | ⟨0, _⟩ => ⟨a.val, by show a.val < (cfg0.win 1).xsize (cfg0.grid.coords t) 0; omega⟩
    | ⟨1, _⟩ => ⟨b.val, by show b.val < (cfg0.win 1).xsize (cfg0.grid.coords t) 1; omega⟩
  have hy : (cfg0.win 1).xinj (cfg0.grid.coords t) y = (ix2 a b : S16384x128.Idx) := funext fun ax => Fin.ext (by
    match ax with
    | ⟨0, _⟩ => rfl
    | ⟨1, _⟩ => rfl)
  rw [← hy, (cfg0.win 1).fill_xinj]
  refine congrArg (V m c main_v0) (funext fun ax => Fin.ext ?_)
  match ax with
  | ⟨0, _⟩ => exact ((cfg0.win 1).rect_emb_val t y 0).trans (by rw [i0]; show t.val * 16384 + a.val = 16384 * t.val + a.val; omega)
  | ⟨1, _⟩ => exact ((cfg0.win 1).rect_emb_val t y 1).trans (by rw [i1]; show 0 * 128 + b.val = b.val; omega)

/-- The weights and biases are staged whole. -/
theorem index_whole (t : Fin cfg0.N) :
    (∀ a, (cfg0.win 2).index t a = 0) ∧ (∀ a, (cfg0.win 3).index t a = 0) ∧ (∀ a, (cfg0.win 4).index t a = 0)
      ∧ (∀ a, (cfg0.win 5).index t a = 0) ∧ (∀ a, (cfg0.win 6).index t a = 0) := by
  revert t; decide +kernel

/-- The first layers' weights at every grid point. -/
theorem whole_2 (c : Dev nD) (t : Fin cfg0.N) : iblk m c 2 t = V m c main_v4 := funext fun y =>
  congrArg (V m c main_v4) (funext fun a => Fin.ext ((cfg0.win 2).rect_emb_val_of_index_zero t a ((index_whole t).1 a) y))

/-- The first layers' biases at every grid point. -/
theorem whole_3 (c : Dev nD) (t : Fin cfg0.N) : iblk m c 3 t = V m c main_v6 := funext fun y =>
  congrArg (V m c main_v6) (funext fun a => Fin.ext ((cfg0.win 3).rect_emb_val_of_index_zero t a ((index_whole t).2.1 a) y))

/-- The second layers' weights at every grid point. -/
theorem whole_4 (c : Dev nD) (t : Fin cfg0.N) : iblk m c 4 t = V m c main_v8 := funext fun y =>
  congrArg (V m c main_v8) (funext fun a => Fin.ext ((cfg0.win 4).rect_emb_val_of_index_zero t a ((index_whole t).2.2.1 a) y))

/-- The positive network's second bias at every grid point. -/
theorem whole_5 (c : Dev nD) (t : Fin cfg0.N) : iblk m c 5 t = V m c main_v9 := funext fun y =>
  congrArg (V m c main_v9) (funext fun a => Fin.ext ((cfg0.win 5).rect_emb_val_of_index_zero t a ((index_whole t).2.2.2.1 a) y))

/-- The negative network's second bias at every grid point. -/
theorem whole_6 (c : Dev nD) (t : Fin cfg0.N) : iblk m c 6 t = V m c main_v10 := funext fun y =>
  congrArg (V m c main_v10) (funext fun a => Fin.ext ((cfg0.win 6).rect_emb_val_of_index_zero t a ((index_whole t).2.2.2.2 a) y))

/-- The result array: row `r` from row `r` of the node rows and the observation at row `r / 128`, column `r % 128`. -/
def result : Res Ideal := fun c j =>
  fusedRow (V m c main_v2 (ix2 (⟨(j 0).val / 128, by have := (j 0).isLt; show _ / 128 < 3125; change _ < 400000 at this; omega⟩ : Fin 3125)
      (⟨(j 0).val % 128, Nat.mod_lt _ (by decide)⟩ : Fin 128)))
    (fun k => V m c main_v0 (ix2 (j 0) k)) (V m c main_v4) (V m c main_v6) (V m c main_v8) (V m c main_v9) (V m c main_v10) (j 1)

/-- **What the body stores is the result's block on the rows inside the array**, whatever the buffers of the observations and of
    the node rows hold past their arrays' ends: a row inside reads its own row and one observation inside. -/
theorem stored_eq (c : Dev nD) (t : Fin cfg0.N) (d0 : S128x128.Idx → Elt Ideal .f32) (d1 : S16384x128.Idx → Elt Ideal .f32) :
    (cfg0.win 7).cut (cfg0.grid.coords t) (stored m c t d0 d1) = oblk (result m) c t := by
  obtain ⟨-, -, -, -, i0, i1⟩ := index_rows t
  obtain ⟨-, -, -, -, x0, x1⟩ := xsize_rows t
  funext y
  have hy0 : (y 0).val < (cfg0.win 7).xsize (cfg0.grid.coords t) 0 := (y 0).isLt
  have hy1 : (y 1).val < (cfg0.win 7).xsize (cfg0.grid.coords t) 1 := (y 1).isLt
  have h0 : (y 0).val < 16384 := by omega
  have h1 : (y 1).val < 128 := by omega
  have hin : 16384 * t.val + (y 0).val < 400000 := by omega
  have e : (cfg0.win 7).xinj (cfg0.grid.coords t) y = (ix2 (⟨(y 0).val, h0⟩ : Fin 16384) (⟨(y 1).val, h1⟩ : Fin 128) : S16384x128.Idx) :=
    funext fun ax => Fin.ext (by
      match ax with
      | ⟨0, _⟩ => rfl
      | ⟨1, _⟩ => rfl)
  have e' : ((cfg0.win 7).blk t).view.emb y
      = (ix2 (⟨16384 * t.val + (y 0).val, hin⟩ : Fin 400000) (⟨(y 1).val, h1⟩ : Fin 128) : S400000x128.Idx) :=
    funext fun ax => Fin.ext (by
      match ax with
      | ⟨0, _⟩ => exact ((cfg0.win 7).rect_emb_val t y 0).trans (by rw [i0]; show t.val * 16384 + (y 0).val = 16384 * t.val + (y 0).val; omega)
      | ⟨1, _⟩ => exact ((cfg0.win 7).rect_emb_val t y 1).trans (by rw [i1]; show 0 * 128 + (y 1).val = (y 1).val; omega))
  show stored m c t d0 d1 ((cfg0.win 7).xinj (cfg0.grid.coords t) y) = result m c (((cfg0.win 7).blk t).view.emb y)
  rw [e, e']
  unfold stored result
  rw [whole_2, whole_3, whole_4, whole_5, whole_6, blockOut_apply, fill_obs m c t d0 _ _ (by show 128 * t.val + (y 0).val / 128 < 3125; omega)]
  have hx : (fun k : Fin 128 => (cfg0.win 1).fill (cfg0.grid.coords t) d1 (iblk m c 1 t) (ix2 (⟨(y 0).val, h0⟩ : Fin 16384) k : S16384x128.Idx))
      = fun k => V m c main_v0 (ix2 (⟨16384 * t.val + (y 0).val, hin⟩ : Fin 400000) k) := funext fun k => fill_rows m c t d1 _ k hin
  rw [hx]
  have ho : ∀ {a b a' b' : ℕ} (ha hb ha' hb'), a = a' → b = b' → V m c main_v2 (ix2 (⟨a, ha⟩ : Fin 3125) (⟨b, hb⟩ : Fin 128))
      = V m c main_v2 (ix2 (⟨a', ha'⟩ : Fin 3125) (⟨b', hb'⟩ : Fin 128)) := by
    intro a b a' b' _ _ _ _ h₁ h₂; subst h₁; subst h₂; rfl
  exact congrArg (fun o => fusedRow o _ _ _ _ _ _ _) (ho _ _ _ _
    (by show 128 * t.val + (y 0).val / 128 = (16384 * t.val + (y 0).val) / 128; omega)
    (by show (y 0).val % 128 = (16384 * t.val + (y 0).val) % 128; omega))

/-- The run of the kernel's program at the ideal: the result is the reshaped result array, every argument is as it was. -/
theorem run_result (ρ : Dev nD → PrngReg) :
    θ_run (defs (F := Ideal)) (onTc (τ := τ) (main (F := Ideal))) ⟨m, fun _ => 0, ρ⟩ (fun r =>
      (∀ c : Dev nD, r.2.mem ((c.tc : Thread nD τ).loc main_v12)
          = shapeCast S8x50000x128 (result m c) shapeCasts_S400000x128_S8x50000x128)
      ∧ Kept m r) :=
  run_value m ρ (result m) (stored_eq m)

end Cert.KernelIdeal.Fused

end
-- ==== Proof.Host.lean ====
/-
  The arrays the launch reads, from the program's arguments: what the host operations before it prepare, and the result the
  reshape after it returns, element by element.

  Row `50000 t + n` of the launch's arrays is node `n` of graph `t`.
-/
module

public import proofs.«01_k».proof.Proof.Result

@[expose] public section

set_option maxRecDepth 16384

noncomputable section

namespace Cert.KernelIdeal.Fused

open Cert.KernelIdeal Cert.KernelIdeal.Gen
open Idealize.ShloMosaic Idealize.ShloMosaic.TcCoe

variable (m : (ℓ : Loc nD τ sig) → Buf (Elt Ideal) ℓ)

/-- The node rows as rows of one array, read at node `n` of graph `t`. -/
theorem rows_apply (x : S8x50000x128.Idx → EReal) (t : Fin 8) (n : Fin 50000) (k : Fin 128) :
    shapeCast S400000x128 x shapeCasts_S8x50000x128_S400000x128 (ix2 (⟨50000 * t.val + n.val, by omega⟩ : Fin 400000) k) = x (ix3 t n k) := by
  pointwise

/-- The observations 128 to a row, read at a place of that array. -/
theorem obs_apply (o : S8x50000.Idx → BitVec 32) (a : Fin 3125) (b : Fin 128) :
    shapeCast S3125x128 o shapeCasts_S8x50000_S3125x128 (ix2 a b)
      = o (ix2 ⟨(a.val * 128 + b.val) / 50000, by omega⟩ ⟨(a.val * 128 + b.val) % 50000, by omega⟩) := by
  pointwise

/-- The launch's node rows. -/
theorem V_v0 (c : Dev nD) : V m c main_v0 = shapeCast S400000x128 (m ((c.tc : Thread nD τ).loc main_arg0)) shapeCasts_S8x50000x128_S400000x128 := by
  unfold V V0
  simp only [hostOps0, List.flatten_cons, List.flatten_nil, List.append_nil]
  after_results_simp
  rfl

/-- The launch's node row `50000 t + n` is the row of node `n` of graph `t`. -/
theorem V_v0_apply (c : Dev nD) (t : Fin 8) (n : Fin 50000) (k : Fin 128) :
    V m c main_v0 (ix2 (⟨50000 * t.val + n.val, by omega⟩ : Fin 400000) k) = m ((c.tc : Thread nD τ).loc main_arg0) (ix3 t n k) := by
  rw [V_v0, rows_apply]

/-- The launch's observations, as floats. -/
theorem V_v2 (c : Dev nD) : V m c main_v2 = sitofp (F := Ideal) .f32
    (shapeCast S3125x128 (m ((c.tc : Thread nD τ).loc main_arg1)) shapeCasts_S8x50000_S3125x128) := by
  unfold V V0
  simp only [hostOps0, List.flatten_cons, List.flatten_nil, List.append_nil]
  after_results_simp
  rfl

/-- The observation the launch takes for row `50000 t + n` is that of node `n` of graph `t`. -/
theorem V_v2_apply (c : Dev nD) (t : Fin 8) (n : Fin 50000) :
    V m c main_v2 (ix2 (⟨(50000 * t.val + n.val) / 128, by omega⟩ : Fin 3125) (⟨(50000 * t.val + n.val) % 128, Nat.mod_lt _ (by decide)⟩ : Fin 128))
      = FloatOps.sitofp (F := Ideal) .f32 (m ((c.tc : Thread nD τ).loc main_arg1) (ix2 t n) : BitVec 32) := by
  rw [V_v2]
  refine congrArg (FloatOps.sitofp (F := Ideal) .f32) ((obs_apply _ _ _).trans (congrArg _ (funext fun a => Fin.ext ?_)))
  match a with
  | ⟨0, _⟩ => show ((50000 * t.val + n.val) / 128 * 128 + (50000 * t.val + n.val) % 128) / 50000 = t.val; omega
  | ⟨1, _⟩ => show ((50000 * t.val + n.val) / 128 * 128 + (50000 * t.val + n.val) % 128) % 50000 = n.val; omega

/-- The first layers' weights side by side. -/
theorem V_v4 (c : Dev nD) : V m c main_v4 = truncf (F := Ideal) .bf16
    (concatenate S128x256 1 [⟨S128x128, m ((c.tc : Thread nD τ).loc main_arg2)⟩, ⟨S128x128, m ((c.tc : Thread nD τ).loc main_arg6)⟩]
      concatenates_S128x128_S128x128_S128x256_d1) bitsLt_bf16_f32 := by
  unfold V V0
  simp only [hostOps0, List.flatten_cons, List.flatten_nil, List.append_nil]
  after_results_simp
  rfl

/-- The first 128 columns are the positive network's. -/
theorem V_v4_pos (c : Dev nD) (a k : Fin 128) :
    V m c main_v4 (ix2 a (⟨k.val, by omega⟩ : Fin 256)) = m ((c.tc : Thread nD τ).loc main_arg2) (ix2 a k) := by
  rw [V_v4]
  pointwise

/-- The last 128 columns are the negative network's. -/
theorem V_v4_neg (c : Dev nD) (a k : Fin 128) :
    V m c main_v4 (ix2 a (⟨128 + k.val, by omega⟩ : Fin 256)) = m ((c.tc : Thread nD τ).loc main_arg6) (ix2 a k) := by
  rw [V_v4]
  pointwise

/-- The first layers' biases side by side. -/
theorem V_v6 (c : Dev nD) : V m c main_v6 = shapeCast S1x256
    (concatenate S256 0 [⟨S128, m ((c.tc : Thread nD τ).loc main_arg3)⟩, ⟨S128, m ((c.tc : Thread nD τ).loc main_arg7)⟩]
      concatenates_S128_S128_S256_d0) shapeCasts_S256_S1x256 := by
  unfold V V0
  simp only [hostOps0, List.flatten_cons, List.flatten_nil, List.append_nil]
  after_results_simp
  rfl

/-- The first 128 biases are the positive network's. -/
theorem V_v6_pos (c : Dev nD) (k : Fin 128) :
    V m c main_v6 (ix2 (0 : Fin 1) (⟨k.val, by omega⟩ : Fin 256)) = m ((c.tc : Thread nD τ).loc main_arg3) (ix1 k) := by
  rw [V_v6]
  pointwise

/-- The last 128 biases are the negative network's. -/
theorem V_v6_neg (c : Dev nD) (k : Fin 128) :
    V m c main_v6 (ix2 (0 : Fin 1) (⟨128 + k.val, by omega⟩ : Fin 256)) = m ((c.tc : Thread nD τ).loc main_arg7) (ix1 k) := by
  rw [V_v6]
  pointwise

/-- The second layers' weights one below the other. -/
theorem V_v8 (c : Dev nD) : V m c main_v8 = truncf (F := Ideal) .bf16
    (concatenate S256x128 0 [⟨S128x128, m ((c.tc : Thread nD τ).loc main_arg4)⟩, ⟨S128x128, m ((c.tc : Thread nD τ).loc main_arg8)⟩]
      concatenates_S128x128_S128x128_S256x128_d0) bitsLt_bf16_f32 := by
  unfold V V0
  simp only [hostOps0, List.flatten_cons, List.flatten_nil, List.append_nil]
  after_results_simp
  rfl

/-- The first 128 rows are the positive network's. -/
theorem V_v8_pos (c : Dev nD) (k l : Fin 128) :
    V m c main_v8 (ix2 (⟨k.val, by omega⟩ : Fin 256) l) = m ((c.tc : Thread nD τ).loc main_arg4) (ix2 k l) := by
  rw [V_v8]
  pointwise

/-- The last 128 rows are the negative network's. -/
theorem V_v8_neg (c : Dev nD) (k l : Fin 128) :
    V m c main_v8 (ix2 (⟨128 + k.val, by omega⟩ : Fin 256) l) = m ((c.tc : Thread nD τ).loc main_arg8) (ix2 k l) := by
  rw [V_v8]
  pointwise

/-- The positive network's second bias. -/
theorem V_v9 (c : Dev nD) (l : Fin 128) : V m c main_v9 (ix2 (0 : Fin 1) l) = m ((c.tc : Thread nD τ).loc main_arg5) (ix1 l) := by
  have e : V m c main_v9 = shapeCast S1x128 (m ((c.tc : Thread nD τ).loc main_arg5)) shapeCasts_S128_S1x128 := by
    unfold V V0
    simp only [hostOps0, List.flatten_cons, List.flatten_nil, List.append_nil]
    after_results_simp
    rfl
  rw [e]
  pointwise

/-- The negative network's second bias. -/
theorem V_v10 (c : Dev nD) (l : Fin 128) : V m c main_v10 (ix2 (0 : Fin 1) l) = m ((c.tc : Thread nD τ).loc main_arg9) (ix1 l) := by
  have e : V m c main_v10 = shapeCast S1x128 (m ((c.tc : Thread nD τ).loc main_arg9)) shapeCasts_S128_S1x128 := by
    unfold V V0
    simp only [hostOps0, List.flatten_cons, List.flatten_nil, List.append_nil]
    after_results_simp
    rfl
  rw [e]
  pointwise

/-- The program's result at node `n` of graph `t`: row `50000 t + n` of the launch's result. -/
theorem reshaped_apply (R : S400000x128.Idx → EReal) (t : Fin 8) (n : Fin 50000) (l : Fin 128) :
    shapeCast S8x50000x128 R shapeCasts_S400000x128_S8x50000x128 (ix3 t n l)
      = R (ix2 (⟨50000 * t.val + n.val, by omega⟩ : Fin 400000) l) := by
  have e : shapeCast S8x50000x128 R shapeCasts_S400000x128_S8x50000x128 (ix3 t n l)
      = R (ix2 (⟨t.val * 50000 + n.val, by omega⟩ : Fin 400000) l) := by pointwise
  rw [e]
  exact congrArg (fun a : Fin 400000 => R (ix2 a l)) (Fin.ext (by show t.val * 50000 + n.val = 50000 * t.val + n.val; omega))

end Cert.KernelIdeal.Fused

end
-- ==== Proof.Reference.lean ====
/-
  What the reference computes at the ideal, element by element.
-/
module

public import proofs.«01_k».proof.Proof.Gen.ReferenceIdeal.Run
public import proofs.«01_k».proof.Proof.Gen.Pre_observed
public import Idealize.ShloMosaic.Lib.Pointwise
public import Idealize.ShloMosaic.PureOps.Ideal
public import Idealize.ShloMosaic.Lib.ValueIdx
public import Idealize.ShloMosaic.Lib.ReduceAll
public import Idealize.ShloMosaic.Lib.WordArith

@[expose] public section

set_option maxRecDepth 16384

noncomputable section

namespace Cert.ReferenceIdeal.Plain

open Cert.ReferenceIdeal Cert.ReferenceIdeal.Gen
open Idealize.ShloMosaic Idealize.ShloMosaic.TcCoe
open Idealize.SL.Sem

/-- A two-layer network on node rows, in the reference's operations. -/
def net (x : FVec Ideal S8x50000x128 .f32) (W0 : FVec Ideal S128x128 .f32) (b0 : FVec Ideal S128 .f32) (W1 : FVec Ideal S128x128 .f32)
    (b1 : FVec Ideal S128 .f32) : FVec Ideal S8x50000x128 .f32 :=
  addf (Host.dotGeneral dot_S8x50000x128_S128x128_S8x50000x128_2_0_01_1_n_n none
      (maximumf (addf (Host.dotGeneral dot_S8x50000x128_S128x128_S8x50000x128_2_0_01_1_n_n none x W0)
          (broadcastInDim S8x50000x128 ![0, 1, 2] bcast_S1x1x128_S8x50000x128_0_1_2 (broadcastInDim S1x1x128 ![2] bcast_S128_S1x1x128_2 b0)))
        (broadcastInDim S8x50000x128 ![] bcast_S_S8x50000x128 (constant S_ .f32 0x00000000#32))) W1)
    (broadcastInDim S8x50000x128 ![0, 1, 2] bcast_S1x1x128_S8x50000x128_0_1_2 (broadcastInDim S1x1x128 ![2] bcast_S128_S1x1x128_2 b1))

/-- Whether a node's observation is the word `w`, for every lane of its row. -/
def isWord (o : IVec S8x50000 32) (w : BitVec 32) : IVec S8x50000x128 1 :=
  broadcastInDim S8x50000x128 ![0, 1, 2] bcast_S8x50000x1_S8x50000x128_0_1_2
    (broadcastInDim S8x50000x1 ![0, 1] bcast_S8x50000_S8x50000x1_0_1
      (cmpi .eq o (broadcastInDim S8x50000 ![] bcast_S_S8x50000 (constantI S_ 32 w))))

/-- A network at one lane of one node: the sum over the hidden layer. -/
theorem net_apply (x : FVec Ideal S8x50000x128 .f32) (W0 : FVec Ideal S128x128 .f32) (b0 : FVec Ideal S128 .f32)
    (W1 : FVec Ideal S128x128 .f32) (b1 : FVec Ideal S128 .f32) (t : Fin 8) (n : Fin 50000) (l : Fin 128) :
    net x W0 b0 W1 b1 (ix3 t n l)
      = ∑ k : Fin 128, max (∑ a : Fin 128, x (ix3 t n a) * W0 (ix2 a k) + b0 (ix1 k)) 0 * W1 (ix2 k l) + b1 (ix1 l) := by
  pointwise [net]

/-- The mask of the observations that are `w`, at a lane of a node. -/
theorem isWord_apply (o : IVec S8x50000 32) (w : BitVec 32) (t : Fin 8) (n : Fin 50000) (l : Fin 128) :
    isWord o w (ix3 t n l) = IntOp.cmpi .eq (o (ix2 t n)) w := by
  pointwise [isWord]

/-- The reference's result: the positive network where the observation is 1, else the negative network where it is -1, else the
    node's own row. -/
def out (x : FVec Ideal S8x50000x128 .f32) (o : IVec S8x50000 32) (pW0 : FVec Ideal S128x128 .f32) (pb0 : FVec Ideal S128 .f32)
    (pW1 : FVec Ideal S128x128 .f32) (pb1 : FVec Ideal S128 .f32) (nW0 : FVec Ideal S128x128 .f32) (nb0 : FVec Ideal S128 .f32)
    (nW1 : FVec Ideal S128x128 .f32) (nb1 : FVec Ideal S128 .f32) : FVec Ideal S8x50000x128 .f32 :=
  select (isWord o 1#32) (net x pW0 pb0 pW1 pb1) (select (isWord o 4294967295#32) (net x nW0 nb0 nW1 nb1) x)

/-- The reference's result at an index, by the observation. -/
theorem out_apply (x : FVec Ideal S8x50000x128 .f32) (o : IVec S8x50000 32) (pW0 : FVec Ideal S128x128 .f32) (pb0 : FVec Ideal S128 .f32)
    (pW1 : FVec Ideal S128x128 .f32) (pb1 : FVec Ideal S128 .f32) (nW0 : FVec Ideal S128x128 .f32) (nb0 : FVec Ideal S128 .f32)
    (nW1 : FVec Ideal S128x128 .f32) (nb1 : FVec Ideal S128 .f32) (t : Fin 8) (n : Fin 50000) (l : Fin 128) :
    out x o pW0 pb0 pW1 pb1 nW0 nb0 nW1 nb1 (ix3 t n l)
      = if o (ix2 t n) = 1#32 then net x pW0 pb0 pW1 pb1 (ix3 t n l)
        else if o (ix2 t n) = 4294967295#32 then net x nW0 nb0 nW1 nb1 (ix3 t n l) else x (ix3 t n l) := by
  show Scalar.select (isWord o 1#32 (ix3 t n l)) _ (Scalar.select (isWord o 4294967295#32 (ix3 t n l)) _ _) = _
  rw [isWord_apply, isWord_apply]
  generalize o (ix2 t n) = w
  by_cases h1 : w = 1#32
  · simp [h1, Scalar.select, IntOp.cmpi]
  · by_cases h2 : w = 4294967295#32
    · simp [h2, Scalar.select, IntOp.cmpi]
    · have b1 : (w == 1#32) = false := by simpa using h1
      have b2 : (w == 4294967295#32) = false := by simpa using h2
      simp [h1, h2, b1, b2, Scalar.select, IntOp.cmpi]

/-- The reference's run: its result is `out` of its arguments, every argument as it was, no semaphore left up. -/
theorem run_out (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v25) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  (θ_run defs _ _).mono (fun r h => ⟨h, sem_eq_zero_of_no_sems (by decide) r.2⟩) (Value.run m ρ)

/-- The precondition says that every observation is -1, 0 or 1. -/
theorem observed_word (x : FVec Ideal S8x50000x128 .f32) (o : IVec S8x50000 32) (a₂ : FVec Ideal S128x128 .f32) (a₃ : FVec Ideal S128 .f32)
    (a₄ : FVec Ideal S128x128 .f32) (a₅ : FVec Ideal S128 .f32) (a₆ : FVec Ideal S128x128 .f32) (a₇ : FVec Ideal S128 .f32)
    (a₈ : FVec Ideal S128x128 .f32) (a₉ : FVec Ideal S128 .f32)
    (h : Cert.Pre_observed.fn (F := Ideal) x o a₂ a₃ a₄ a₅ a₆ a₇ a₈ a₉ = fun _ => 1#1) (i : S8x50000.Idx) :
    o i = 1#32 ∨ o i = 4294967295#32 ∨ o i = 0#32 := by
  haveI : Subsingleton Cert.Pre_observed.S_.Idx := ⟨fun a b => funext fun k => k.elim0⟩
  have e := Host.reduce_andi_all _ _ _ _ (fun k => k.elim0) (congrFun h _) i
  have e' : IntOp.andi (IntOp.cmpi .sge (o i) 4294967295#32) (IntOp.cmpi .sle (o i) 1#32) = 1#1 := e
  generalize o i = w at e'
  simp only [IntOp.cmpi, WordArith.andi_ofBool, WordArith.ofBool_eq_one_iff, Bool.and_eq_true, BitVec.sle_iff_toInt_le] at e'
  have lo : -1 ≤ w.toInt := e'.1
  have hi : w.toInt ≤ 1 := e'.2
  have h3 : w.toInt = 1 ∨ w.toInt = -1 ∨ w.toInt = 0 := by omega
  exact h3.imp (fun h => BitVec.eq_of_toInt_eq h) (Or.imp (fun h => BitVec.eq_of_toInt_eq h) fun h => BitVec.eq_of_toInt_eq h)

end Cert.ReferenceIdeal.Plain

end
-- ==== Proof.Equation.lean ====
/-
  The equation: where every observation is -1, 0 or 1, the launch's result is the reference's.

  The fused formula of a row weighs the positive network's hidden layer by `max o 0`, the negative one's by `max (0 - o) 0`,
  and the row itself by what is left of 1. One of the three weights is 1 and the others are 0, and the terms of the others
  vanish.
-/
module

public import proofs.«01_k».proof.Proof.Host
public import proofs.«01_k».proof.Proof.Reference

@[expose] public section

set_option maxRecDepth 16384

noncomputable section

namespace Cert.KernelIdeal.Fused

open Cert.KernelIdeal Cert.KernelIdeal.Gen
open Idealize.ShloMosaic Idealize.ShloMosaic.TcCoe

/-- The weight left for the row itself where a network has taken 1. -/
theorem one_sub_one : (1 : EReal) - 1 = 0 :=
  EReal.sub_self (EReal.coe_ne_top 1) (EReal.coe_ne_bot 1)

section Formula

variable (x : Fin 128 → EReal) (w0 : S128x256.Idx → EReal) (b0 : S1x256.Idx → EReal) (w1 : S256x128.Idx → EReal)
  (bp bn : S1x128.Idx → EReal) (l : Fin 128)

/-- Observation 1: the positive network. -/
theorem fusedRow_one : fusedRow 1 x w0 b0 w1 bp bn l
    = ∑ k : Fin 128, hidden x (fun a => w0 (ix2 a (⟨k.val, by omega⟩ : Fin 256))) (b0 (ix2 0 (⟨k.val, by omega⟩ : Fin 256)))
        * w1 (ix2 (⟨k.val, by omega⟩ : Fin 256) l) + bp (ix2 0 l) := by
  have p : max (1 : EReal) 0 = 1 := max_eq_left zero_le_one
  have n : max (0 - (1 : EReal)) 0 = 0 := max_eq_right (by norm_num)
  have r : (1 : EReal) - 1 - 0 = 0 := by rw [one_sub_one, sub_zero]
  simp only [fusedRow, p, n, r, mul_one, mul_zero, zero_mul, one_mul, Finset.sum_const_zero, add_zero]

/-- Observation -1: the negative network. -/
theorem fusedRow_neg_one : fusedRow (-1) x w0 b0 w1 bp bn l
    = ∑ k : Fin 128, hidden x (fun a => w0 (ix2 a (⟨128 + k.val, by omega⟩ : Fin 256))) (b0 (ix2 0 (⟨128 + k.val, by omega⟩ : Fin 256)))
        * w1 (ix2 (⟨128 + k.val, by omega⟩ : Fin 256) l) + bn (ix2 0 l) := by
  have p : max (-1 : EReal) 0 = 0 := max_eq_right (by norm_num)
  have n : max (0 - (-1 : EReal)) 0 = 1 := by rw [zero_sub, neg_neg]; exact max_eq_left zero_le_one
  have r : (1 : EReal) - 0 - 1 = 0 := by rw [sub_zero, one_sub_one]
  simp only [fusedRow, p, n, r, mul_one, mul_zero, zero_mul, one_mul, Finset.sum_const_zero, add_zero, zero_add]

/-- Observation 0: the row itself. -/
theorem fusedRow_zero : fusedRow 0 x w0 b0 w1 bp bn l = x l := by
  have p : max (0 : EReal) 0 = 0 := max_self 0
  have n : max (0 - (0 : EReal)) 0 = 0 := by rw [sub_zero, max_self]
  have r : (1 : EReal) - 0 - 0 = 1 := by norm_num
  simp only [fusedRow, p, n, r, mul_zero, zero_mul, one_mul, Finset.sum_const_zero, add_zero, zero_add]

end Formula

/-- The observation 1 as a float. -/
theorem sitofp_one : FloatOps.sitofp (F := Ideal) .f32 (1#32) = (1 : EReal) := by
  show ((((1#32 : BitVec 32).toInt : ℤ) : ℝ) : EReal) = 1
  rw [show (1#32 : BitVec 32).toInt = 1 by decide]
  norm_num

/-- The observation -1 as a float. -/
theorem sitofp_neg_one : FloatOps.sitofp (F := Ideal) .f32 (4294967295#32) = (-1 : EReal) := by
  show ((((4294967295#32 : BitVec 32).toInt : ℤ) : ℝ) : EReal) = -1
  rw [show (4294967295#32 : BitVec 32).toInt = -1 by decide]
  norm_num

/-- The observation 0 as a float. -/
theorem sitofp_nought : FloatOps.sitofp (F := Ideal) .f32 (0#32) = (0 : EReal) := by
  show ((((0#32 : BitVec 32).toInt : ℤ) : ℝ) : EReal) = 0
  rw [show (0#32 : BitVec 32).toInt = 0 by decide]
  norm_num

variable (m : (ℓ : Loc nD τ sig) → Buf (Elt Ideal) ℓ)

/-- The reference's result at the program's arguments. -/
def plain (c : Dev nD) : FVec Ideal S8x50000x128 .f32 :=
  ReferenceIdeal.Plain.out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- The launch's result at node `n` of graph `t`, in the program's own arguments. -/
theorem result_apply (c : Dev nD) (t : Fin 8) (n : Fin 50000) (l : Fin 128) :
    shapeCast S8x50000x128 (result m c) shapeCasts_S400000x128_S8x50000x128 (ix3 t n l)
      = fusedRow (FloatOps.sitofp (F := Ideal) .f32 (m ((c.tc : Thread nD τ).loc main_arg1) (ix2 t n) : BitVec 32))
          (fun k => m ((c.tc : Thread nD τ).loc main_arg0) (ix3 t n k))
          (V m c main_v4) (V m c main_v6) (V m c main_v8) (V m c main_v9) (V m c main_v10) l := by
  refine (reshaped_apply _ t n l).trans ?_
  rw [← V_v2_apply, ← funext fun k => V_v0_apply m c t n k]
  rfl

/-- Where every observation is -1, 0 or 1, the program's result is the reference's. -/
theorem result_eq_plain (c : Dev nD)
    (ho : ∀ i : S8x50000.Idx, (m ((c.tc : Thread nD τ).loc main_arg1) i : BitVec 32) = 1#32
      ∨ (m ((c.tc : Thread nD τ).loc main_arg1) i : BitVec 32) = 4294967295#32 ∨ (m ((c.tc : Thread nD τ).loc main_arg1) i : BitVec 32) = 0#32) :
    shapeCast S8x50000x128 (result m c) shapeCasts_S400000x128_S8x50000x128 = plain m c := by
  funext i
  obtain ⟨t, n, l, rfl⟩ : ∃ (t : Fin 8) (n : Fin 50000) (l : Fin 128), i = ix3 t n l := ⟨i 0, i 1, i 2, (ix3_eta i).symm⟩
  rw [result_apply, plain, ReferenceIdeal.Plain.out_apply]
  rcases ho (ix2 t n) with h | h | h
  · rw [h, sitofp_one, fusedRow_one, if_pos rfl, ReferenceIdeal.Plain.net_apply]
    exact congrArg₂ (· + ·) (Finset.sum_congr rfl fun k _ => congrArg₂ (· * ·)
      (congrArg₂ (hidden _) (funext fun a => V_v4_pos m c a k) (V_v6_pos m c k)) (V_v8_pos m c k l)) (V_v9 m c l)
  · rw [h, sitofp_neg_one, fusedRow_neg_one, if_neg (by decide), if_pos rfl, ReferenceIdeal.Plain.net_apply]
    exact congrArg₂ (· + ·) (Finset.sum_congr rfl fun k _ => congrArg₂ (· * ·)
      (congrArg₂ (hidden _) (funext fun a => V_v4_neg m c a k) (V_v6_neg m c k)) (V_v8_neg m c k l)) (V_v10 m c l)
  · rw [h, sitofp_nought, fusedRow_zero, if_neg (by decide), if_neg (by decide)]

end Cert.KernelIdeal.Fused

end
-- ==== Proof.lean ====
/-
  The certificate: every run of the program as printed, of its ideal twin and of the reference ends with the arguments as they
  were and no semaphore left up, and where every observation is -1, 0 or 1 the ideal twin's result is the reference's.
-/
module

public import proofs.«01_k».proof.Defs
public import proofs.«01_k».proof.Proof.Twin
public import proofs.«01_k».proof.Proof.Equation

@[expose] public section

noncomputable section

namespace Cert.Proof

open Idealize.ShloMosaic Idealize.SL.Sem
open Cert.KernelIdeal.Fused (plain result_eq_plain run_frame run_result defs_eq)

/-- The program as printed leaves its arguments and its semaphores as they were. -/
theorem frame_kernel : Cert.quiescent_Kernel := by
  intro m g _
  have h := run_frame (F := Bits) m g
  rw [← defs_eq] at h
  exact h

/-- The ideal twin leaves its arguments and its semaphores as they were. -/
theorem frame_ideal : Cert.quiescent_KernelIdeal := fun m g _ => run_frame (F := Ideal) m g

/-- The reference leaves its arguments and its semaphores as they were. -/
theorem frame_reference : Cert.quiescent_ReferenceIdeal := fun m g _ =>
  (θ_run Cert.ReferenceIdeal.defs _ _).mono (fun r h => ⟨fun c => (h.1 c).2, h.2⟩) (Cert.ReferenceIdeal.Plain.run_out m g)

/-- Under the precondition, the ideal twin's result and the reference's are one array. -/
theorem algebraic : Cert.algebraic_KernelIdeal_ReferenceIdeal_pre_observed := by
  intro m g m' g' hpre hargs
  refine ⟨plain m, (θ_run Cert.KernelIdeal.defs _ _).mono (fun r h c => ⟨?_, h.2.1 c⟩) (run_result m g),
    (θ_run Cert.ReferenceIdeal.defs _ _).mono (fun r h c => ⟨?_, (h.1 c).2⟩) (Cert.ReferenceIdeal.Plain.run_out m' g')⟩
  · exact (h.1 c).trans (result_eq_plain m c fun i => Cert.ReferenceIdeal.Plain.observed_word _ _ _ _ _ _ _ _ _ _ (hpre c) i)
  · obtain ⟨e0, e1, e2, e3, e4, e5, e6, e7, e8, e9⟩ := hargs c
    refine (h.1 c).1.trans ?_
    rw [e0, e1, e2, e3, e4, e5, e6, e7, e8, e9]
    rfl

/-- Everything the certificate claims. -/
theorem claim : Cert.Claim := ⟨Cert.Kernel.Gen.facts, Cert.KernelIdeal.Gen.facts, Cert.ReferenceIdeal.Gen.facts, Cert.Pre_observed.Gen.facts,
  frame_kernel, frame_ideal, fun m g _ => frame_ideal m g trivial, frame_reference, fun m g _ => frame_reference m g trivial, trivial, algebraic⟩

end Cert.Proof

end
